-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨4, ![2, 256, 8, 64]⟩ ⟨4, ![2, 512, 8, 64]⟩ (Layout.meshBlock [2, 2, 2] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)

variable [Facts]

def fn {F : FTy → Type} [FloatOps F] (main_arg0 : FVec F S2x256x8x64 .bf16) (main_arg1 : FVec F S2x256x8x64 .bf16) (main_arg2 : FVec F S2x256x8x64 .bf16) : IVec S2x256x8x64 1 × IVec S2x256x8x64 1 :=
  let main_v0 : FVec F S2x256x8x64 .bf16 := Host.absf main_arg0
  let main_cst : FVec F S_ .bf16 := constant S_ .bf16 0x7F80#16
  let main_v1 : FVec F S2x256x8x64 .bf16 := broadcastInDim S2x256x8x64 ![] bcast_S_S2x256x8x64 main_cst
  let main_v2 : IVec S2x256x8x64 1 := cmpf .olt main_v0 main_v1
  let main_v3 : FVec F S2x256x8x64 .bf16 := Host.absf main_arg1
  let main_cst_0 : FVec F S_ .bf16 := constant S_ .bf16 0x7F80#16
  let main_v4 : FVec F S2x256x8x64 .bf16 := broadcastInDim S2x256x8x64 ![] bcast_S_S2x256x8x64 main_cst_0
  let main_v5 : IVec S2x256x8x64 1 := cmpf .olt main_v3 main_v4
  (main_v2, main_v5)
-- ==== Pre_finite_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 × IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  (main_v2, main_v5)
-- ==== Kernel.lean ====
abbrev S2x256x8x64 : Shape := ⟨4, ![2, 256, 8, 64]⟩
abbrev S_ : Shape := ⟨0, ![]⟩
abbrev S2x8x256x64 : Shape := ⟨4, ![2, 8, 256, 64]⟩
abbrev S16x256x64 : Shape := ⟨3, ![16, 256, 64]⟩
abbrev S8 : Shape := ⟨1, ![8]⟩
abbrev S1 : Shape := ⟨1, ![1]⟩
abbrev S4x256x64 : Shape := ⟨3, ![4, 256, 64]⟩
abbrev S16x256x256 : Shape := ⟨3, ![16, 256, 256]⟩
abbrev S16x256 : Shape := ⟨2, ![16, 256]⟩
abbrev S16x256x1 : Shape := ⟨3, ![16, 256, 1]⟩

abbrev nBuf : Space → Nat
  | .hbm => 15
  | .vmem => 6
  | .smem => 0
  | _ => 0

abbrev bufTy : (tb : Table) → Fin (tcTables nBuf tb) → BufTy
  | .hbm, ⟨0, _⟩ => ⟨S2x256x8x64, .bf16⟩
  | .hbm, ⟨1, _⟩ => ⟨S2x256x8x64, .bf16⟩
  | .hbm, ⟨2, _⟩ => ⟨S2x256x8x64, .bf16⟩
  | .hbm, ⟨3, _⟩ => ⟨S_, .bf16⟩
  | .hbm, ⟨4, _⟩ => ⟨S2x256x8x64, .bf16⟩
  | .hbm, ⟨5, _⟩ => ⟨S2x256x8x64, .bf16⟩
  | .hbm, ⟨6, _⟩ => ⟨S2x8x256x64, .bf16⟩
  | .hbm, ⟨7, _⟩ => ⟨S16x256x64, .bf16⟩
  | .hbm, ⟨8, _⟩ => ⟨S2x8x256x64, .bf16⟩
  | .hbm, ⟨9, _⟩ => ⟨S16x256x64, .bf16⟩
  | .hbm, ⟨10, _⟩ => ⟨S2x8x256x64, .bf16⟩
  | .hbm, ⟨11, _⟩ => ⟨S16x256x64, .bf16⟩
  | .hbm, ⟨12, _⟩ => ⟨S16x256x64, .f32⟩
  | .hbm, ⟨13, _⟩ => ⟨S2x8x256x64, .f32⟩
  | .hbm, ⟨14, _⟩ => ⟨S2x256x8x64, .f32⟩
  | .local _ .vmem, ⟨0, _⟩ => ⟨S16x256x64, .bf16⟩
  | .local _ .vmem, ⟨1, _⟩ => ⟨S16x256x64, .bf16⟩
  | .local _ .vmem, ⟨2, _⟩ => ⟨S16x256x64, .bf16⟩
  | .local _ .vmem, ⟨3, _⟩ => ⟨S16x256x64, .f32⟩
  | .local _ .vmem, ⟨4, _⟩ => ⟨S16x256x64, .bf16⟩
  | .local _ .vmem, ⟨5, _⟩ => ⟨S16x256x64, .bf16⟩
  | _, _ => ⟨S2x256x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v15 : BitVec 32 := Scalar.muli v2 c4_i32_7
  let v16 : BitVec 32 := Scalar.addi c0_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v17 : BitVec 32 := Scalar.muli v5 c2_i32_9
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_10 : BitVec 32 := 1#32
  let v19 : BitVec 32 := Scalar.muli v9 c1_i32_10
  let v20 : BitVec 32 := Scalar.addi v18 v19
  v20.toNat
def k0_dev2 (d0 : Dev nD) : Nat :=
  let c0_i32_13 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_12 : BitVec 32 := 4#32
  let v21 : BitVec 32 := Scalar.muli v10 c4_i32_12
  let v22 : BitVec 32 := Scalar.addi c0_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v23 : BitVec 32 := Scalar.muli v5 c2_i32_14
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v25 : BitVec 32 := Scalar.muli v8 c1_i32_15
  let v26 : BitVec 32 := Scalar.addi v24 v25
  v26.toNat
def k0_dev3 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v27 : BitVec 32 := Scalar.muli v2 c4_i32_17
  let v28 : BitVec 32 := Scalar.addi c0_i32_18 v27
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_19 : BitVec 32 := 2#32
  let v29 : BitVec 32 := Scalar.muli v11 c2_i32_19
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v31 : BitVec 32 := Scalar.muli v8 c1_i32_20
  let v32 : BitVec 32 := Scalar.addi v30 v31
  v32.toNat
def k0_cond1 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_21 : BitVec 1 := 1#1
  let v33 : BitVec 1 := Scalar.xori v12 true_21
  let true_22 : BitVec 1 := 1#1
  let v34 : BitVec 1 := Scalar.xori v33 true_22
  let c0_i32 : BitVec 32 := 0#32
  let v13 : BitVec 1 := Scalar.cmpi .eq v2 c0_i32
  let true_23 : BitVec 1 := 1#1
  let v35 : BitVec 1 := Scalar.xori v13 true_23
  let true_24 : BitVec 1 := 1#1
  let v36 : BitVec 1 := Scalar.xori v35 true_24
  let v37 : BitVec 1 := Scalar.andi v34 v36
  let v38 : BitVec 32 := Scalar.extui v37
  let c0_i32_25 : BitVec 32 := 0#32
  let v39 : BitVec 1 := Scalar.cmpi .ne v38 c0_i32_25
  v39

def k0_dev4 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v255 : BitVec 32 := Scalar.muli v2 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v259 : BitVec 32 := Scalar.muli v9 c1_i32_271
  let v260 : BitVec 32 := Scalar.addi v258 v259
  v260.toNat
def k0_dev5 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v269 : BitVec 32 := Scalar.muli v5 c2_i32_282
  let v270 : BitVec 32 := Scalar.addi v268 v269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_283 : BitVec 32 := 1#32
  let v271 : BitVec 32 := Scalar.muli v9 c1_i32_283
  let v272 : BitVec 32 := Scalar.addi v270 v271
  v272.toNat
def k0_dev6 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v279 : BitVec 32 := Scalar.muli v2 c4_i32_292
  let v280 : BitVec 32 := Scalar.addi c0_i32_293 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v281 : BitVec 32 := Scalar.muli v5 c2_i32_294
  let v282 : BitVec 32 := Scalar.addi v280 v281
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v283 : BitVec 32 := Scalar.muli v9 c1_i32_295
  let v284 : BitVec 32 := Scalar.addi v282 v283
  v284.toNat
def k0_dev7 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v291 : BitVec 32 := Scalar.muli v2 c4_i32_304
  let v292 : BitVec 32 := Scalar.addi c0_i32_305 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v293 : BitVec 32 := Scalar.muli v5 c2_i32_306
  let v294 : BitVec 32 := Scalar.addi v292 v293
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v295 : BitVec 32 := Scalar.muli v9 c1_i32_307
  let v296 : BitVec 32 := Scalar.addi v294 v295
  v296.toNat
def k0_cond2 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_26 : BitVec 1 := 1#1
  let v40 : BitVec 1 := Scalar.xori v12 true_26
  let true_27 : BitVec 1 := 1#1
  let v41 : BitVec 1 := Scalar.xori v40 true_27
  let c0_i32 : BitVec 32 := 0#32
  let v13 : BitVec 1 := Scalar.cmpi .eq v2 c0_i32
  let v_false : BitVec 1 := 0#1
  let v42 : BitVec 1 := Scalar.xori v13 v_false
  let true_28 : BitVec 1 := 1#1
  let v43 : BitVec 1 := Scalar.xori v42 true_28
  let v44 : BitVec 1 := Scalar.andi v41 v43
  let v45 : BitVec 32 := Scalar.extui v44
  let c0_i32_29 : BitVec 32 := 0#32
  let v46 : BitVec 1 := Scalar.cmpi .ne v45 c0_i32_29
  v46

def k0_dev8 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v255 : BitVec 32 := Scalar.muli v2 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v259 : BitVec 32 := Scalar.muli v9 c1_i32_271
  let v260 : BitVec 32 := Scalar.addi v258 v259
  v260.toNat
def k0_dev9 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v269 : BitVec 32 := Scalar.muli v5 c2_i32_282
  let v270 : BitVec 32 := Scalar.addi v268 v269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_283 : BitVec 32 := 1#32
  let v271 : BitVec 32 := Scalar.muli v9 c1_i32_283
  let v272 : BitVec 32 := Scalar.addi v270 v271
  v272.toNat
def k0_dev10 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v279 : BitVec 32 := Scalar.muli v2 c4_i32_292
  let v280 : BitVec 32 := Scalar.addi c0_i32_293 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v281 : BitVec 32 := Scalar.muli v5 c2_i32_294
  let v282 : BitVec 32 := Scalar.addi v280 v281
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v283 : BitVec 32 := Scalar.muli v9 c1_i32_295
  let v284 : BitVec 32 := Scalar.addi v282 v283
  v284.toNat
def k0_dev11 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v291 : BitVec 32 := Scalar.muli v2 c4_i32_304
  let v292 : BitVec 32 := Scalar.addi c0_i32_305 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v293 : BitVec 32 := Scalar.muli v5 c2_i32_306
  let v294 : BitVec 32 := Scalar.addi v292 v293
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v295 : BitVec 32 := Scalar.muli v9 c1_i32_307
  let v296 : BitVec 32 := Scalar.addi v294 v295
  v296.toNat
def k0_cond3 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_30 : BitVec 1 := 0#1
  let v47 : BitVec 1 := Scalar.xori v12 false_30
  let true_31 : BitVec 1 := 1#1
  let v48 : BitVec 1 := Scalar.xori v47 true_31
  let c0_i32 : BitVec 32 := 0#32
  let v13 : BitVec 1 := Scalar.cmpi .eq v2 c0_i32
  let true_32 : BitVec 1 := 1#1
  let v49 : BitVec 1 := Scalar.xori v13 true_32
  let true_33 : BitVec 1 := 1#1
  let v50 : BitVec 1 := Scalar.xori v49 true_33
  let v51 : BitVec 1 := Scalar.andi v48 v50
  let v52 : BitVec 32 := Scalar.extui v51
  let c0_i32_34 : BitVec 32 := 0#32
  let v53 : BitVec 1 := Scalar.cmpi .ne v52 c0_i32_34
  v53

def k0_dev12 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v255 : BitVec 32 := Scalar.muli v2 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v259 : BitVec 32 := Scalar.muli v9 c1_i32_271
  let v260 : BitVec 32 := Scalar.addi v258 v259
  v260.toNat
def k0_dev13 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v269 : BitVec 32 := Scalar.muli v5 c2_i32_282
  let v270 : BitVec 32 := Scalar.addi v268 v269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_283 : BitVec 32 := 1#32
  let v271 : BitVec 32 := Scalar.muli v9 c1_i32_283
  let v272 : BitVec 32 := Scalar.addi v270 v271
  v272.toNat
def k0_dev14 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v279 : BitVec 32 := Scalar.muli v2 c4_i32_292
  let v280 : BitVec 32 := Scalar.addi c0_i32_293 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v281 : BitVec 32 := Scalar.muli v5 c2_i32_294
  let v282 : BitVec 32 := Scalar.addi v280 v281
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v283 : BitVec 32 := Scalar.muli v9 c1_i32_295
  let v284 : BitVec 32 := Scalar.addi v282 v283
  v284.toNat
def k0_dev15 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v291 : BitVec 32 := Scalar.muli v2 c4_i32_304
  let v292 : BitVec 32 := Scalar.addi c0_i32_305 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v293 : BitVec 32 := Scalar.muli v5 c2_i32_306
  let v294 : BitVec 32 := Scalar.addi v292 v293
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v295 : BitVec 32 := Scalar.muli v9 c1_i32_307
  let v296 : BitVec 32 := Scalar.addi v294 v295
  v296.toNat
def k0_cond4 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_35 : BitVec 1 := 0#1
  let v54 : BitVec 1 := Scalar.xori v12 false_35
  let true_36 : BitVec 1 := 1#1
  let v55 : BitVec 1 := Scalar.xori v54 true_36
  let c0_i32 : BitVec 32 := 0#32
  let v13 : BitVec 1 := Scalar.cmpi .eq v2 c0_i32
  let false_37 : BitVec 1 := 0#1
  let v56 : BitVec 1 := Scalar.xori v13 false_37
  let true_38 : BitVec 1 := 1#1
  let v57 : BitVec 1 := Scalar.xori v56 true_38
  let v58 : BitVec 1 := Scalar.andi v55 v57
  let v59 : BitVec 32 := Scalar.extui v58
  let c0_i32_39 : BitVec 32 := 0#32
  let v60 : BitVec 1 := Scalar.cmpi .ne v59 c0_i32_39
  v60

def k0_dev16 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_268 : BitVec 32 := 4#32
  let v255 : BitVec 32 := Scalar.muli v2 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_271 : BitVec 32 := 1#32
  let v259 : BitVec 32 := Scalar.muli v9 c1_i32_271
  let v260 : BitVec 32 := Scalar.addi v258 v259
  v260.toNat
def k0_dev17 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v269 : BitVec 32 := Scalar.muli v5 c2_i32_282
  let v270 : BitVec 32 := Scalar.addi v268 v269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_283 : BitVec 32 := 1#32
  let v271 : BitVec 32 := Scalar.muli v9 c1_i32_283
  let v272 : BitVec 32 := Scalar.addi v270 v271
  v272.toNat
def k0_dev18 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v279 : BitVec 32 := Scalar.muli v2 c4_i32_292
  let v280 : BitVec 32 := Scalar.addi c0_i32_293 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v281 : BitVec 32 := Scalar.muli v5 c2_i32_294
  let v282 : BitVec 32 := Scalar.addi v280 v281
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_295 : BitVec 32 := 1#32
  let v283 : BitVec 32 := Scalar.muli v9 c1_i32_295
  let v284 : BitVec 32 := Scalar.addi v282 v283
  v284.toNat
def k0_dev19 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v291 : BitVec 32 := Scalar.muli v2 c4_i32_304
  let v292 : BitVec 32 := Scalar.addi c0_i32_305 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v293 : BitVec 32 := Scalar.muli v5 c2_i32_306
  let v294 : BitVec 32 := Scalar.addi v292 v293
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v295 : BitVec 32 := Scalar.muli v9 c1_i32_307
  let v296 : BitVec 32 := Scalar.addi v294 v295
  v296.toNat
def k0_cond5 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_71 : BitVec 1 := 1#1
  let v86 : BitVec 1 := Scalar.xori v12 true_71
  let true_72 : BitVec 1 := 1#1
  let v87 : BitVec 1 := Scalar.xori v86 true_72
  let c0_i32 : BitVec 32 := 0#32
  let v13 : BitVec 1 := Scalar.cmpi .eq v2 c0_i32
  let true_73 : BitVec 1 := 1#1
  let v88 : BitVec 1 := Scalar.xori v13 true_73
  let true_74 : BitVec 1 := 1#1
  let v89 : BitVec 1 := Scalar.xori v88 true_74
  let v90 : BitVec 1 := Scalar.andi v87 v89
  let v91 : BitVec 32 := Scalar.extui v90
  let c0_i32_75 : BitVec 32 := 0#32
  let v92 : BitVec 1 := Scalar.cmpi .ne v91 c0_i32_75
  v92

def k0_dev20 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev21 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond6 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_76 : BitVec 1 := 1#1
  let v93 : BitVec 1 := Scalar.xori v12 true_76
  let true_77 : BitVec 1 := 1#1
  let v94 : BitVec 1 := Scalar.xori v93 true_77
  let c0_i32 : BitVec 32 := 0#32
  let v13 : BitVec 1 := Scalar.cmpi .eq v2 c0_i32
  let false_78 : BitVec 1 := 0#1
  let v95 : BitVec 1 := Scalar.xori v13 false_78
  let true_79 : BitVec 1 := 1#1
  let v96 : BitVec 1 := Scalar.xori v95 true_79
  let v97 : BitVec 1 := Scalar.andi v94 v96
  let v98 : BitVec 32 := Scalar.extui v97
  let c0_i32_80 : BitVec 32 := 0#32
  let v99 : BitVec 1 := Scalar.cmpi .ne v98 c0_i32_80
  v99

def k0_dev22 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev23 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond7 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_81 : BitVec 1 := 0#1
  let v100 : BitVec 1 := Scalar.xori v12 false_81
  let true_82 : BitVec 1 := 1#1
  let v101 : BitVec 1 := Scalar.xori v100 true_82
  let c0_i32 : BitVec 32 := 0#32
  let v13 : BitVec 1 := Scalar.cmpi .eq v2 c0_i32
  let true_83 : BitVec 1 := 1#1
  let v102 : BitVec 1 := Scalar.xori v13 true_83
  let true_84 : BitVec 1 := 1#1
  let v103 : BitVec 1 := Scalar.xori v102 true_84
  let v104 : BitVec 1 := Scalar.andi v101 v103
  let v105 : BitVec 32 := Scalar.extui v104
  let c0_i32_85 : BitVec 32 := 0#32
  let v106 : BitVec 1 := Scalar.cmpi .ne v105 c0_i32_85
  v106

def k0_dev24 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev25 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond8 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_86 : BitVec 1 := 0#1
  let v107 : BitVec 1 := Scalar.xori v12 false_86
  let true_87 : BitVec 1 := 1#1
  let v108 : BitVec 1 := Scalar.xori v107 true_87
  let c0_i32 : BitVec 32 := 0#32
  let v13 : BitVec 1 := Scalar.cmpi .eq v2 c0_i32
  let false_88 : BitVec 1 := 0#1
  let v109 : BitVec 1 := Scalar.xori v13 false_88
  let true_89 : BitVec 1 := 1#1
  let v110 : BitVec 1 := Scalar.xori v109 true_89
  let v111 : BitVec 1 := Scalar.andi v108 v110
  let v112 : BitVec 32 := Scalar.extui v111
  let c0_i32_90 : BitVec 32 := 0#32
  let v113 : BitVec 1 := Scalar.cmpi .ne v112 c0_i32_90
  v113

def k0_dev26 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev27 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond9 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_112 : BitVec 1 := 1#1
  let v128 : BitVec 1 := Scalar.xori v12 true_112
  let true_113 : BitVec 1 := 1#1
  let v129 : BitVec 1 := Scalar.xori v128 true_113
  let c0_i32 : BitVec 32 := 0#32
  let v13 : BitVec 1 := Scalar.cmpi .eq v2 c0_i32
  let true_114 : BitVec 1 := 1#1
  let v130 : BitVec 1 := Scalar.xori v13 true_114
  let true_115 : BitVec 1 := 1#1
  let v131 : BitVec 1 := Scalar.xori v130 true_115
  let v132 : BitVec 1 := Scalar.andi v129 v131
  let v133 : BitVec 32 := Scalar.extui v132
  let c0_i32_116 : BitVec 32 := 0#32
  let v134 : BitVec 1 := Scalar.cmpi .ne v133 c0_i32_116
  v134

def k0_dev28 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev29 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond10 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let true_117 : BitVec 1 := 1#1
  let v135 : BitVec 1 := Scalar.xori v12 true_117
  let true_118 : BitVec 1 := 1#1
  let v136 : BitVec 1 := Scalar.xori v135 true_118
  let c0_i32 : BitVec 32 := 0#32
  let v13 : BitVec 1 := Scalar.cmpi .eq v2 c0_i32
  let false_119 : BitVec 1 := 0#1
  let v137 : BitVec 1 := Scalar.xori v13 false_119
  let true_120 : BitVec 1 := 1#1
  let v138 : BitVec 1 := Scalar.xori v137 true_120
  let v139 : BitVec 1 := Scalar.andi v136 v138
  let v140 : BitVec 32 := Scalar.extui v139
  let c0_i32_121 : BitVec 32 := 0#32
  let v141 : BitVec 1 := Scalar.cmpi .ne v140 c0_i32_121
  v141

def k0_dev30 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev31 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond11 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_122 : BitVec 1 := 0#1
  let v142 : BitVec 1 := Scalar.xori v12 false_122
  let true_123 : BitVec 1 := 1#1
  let v143 : BitVec 1 := Scalar.xori v142 true_123
  let c0_i32 : BitVec 32 := 0#32
  let v13 : BitVec 1 := Scalar.cmpi .eq v2 c0_i32
  let true_124 : BitVec 1 := 1#1
  let v144 : BitVec 1 := Scalar.xori v13 true_124
  let true_125 : BitVec 1 := 1#1
  let v145 : BitVec 1 := Scalar.xori v144 true_125
  let v146 : BitVec 1 := Scalar.andi v143 v145
  let v147 : BitVec 32 := Scalar.extui v146
  let c0_i32_126 : BitVec 32 := 0#32
  let v148 : BitVec 1 := Scalar.cmpi .ne v147 c0_i32_126
  v148

def k0_dev32 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev33 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
def k0_cond12 (d0 : Dev nD) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 1 := Scalar.cmpi .eq v2 v5
  let false_127 : BitVec 1 := 0#1
  let v149 : BitVec 1 := Scalar.xori v12 false_127
  let true_128 : BitVec 1 := 1#1
  let v150 : BitVec 1 := Scalar.xori v149 true_128
  let c0_i32 : BitVec 32 := 0#32
  let v13 : BitVec 1 := Scalar.cmpi .eq v2 c0_i32
  let false_129 : BitVec 1 := 0#1
  let v151 : BitVec 1 := Scalar.xori v13 false_129
  let true_130 : BitVec 1 := 1#1
  let v152 : BitVec 1 := Scalar.xori v151 true_130
  let v153 : BitVec 1 := Scalar.andi v150 v152
  let v154 : BitVec 32 := Scalar.extui v153
  let c0_i32_131 : BitVec 32 := 0#32
  let v155 : BitVec 1 := Scalar.cmpi .ne v154 c0_i32_131
  v155

def k0_dev34 (d0 : Dev nD) : Nat :=
  let c0_i32_269 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_268 : BitVec 32 := 4#32
  let v255 : BitVec 32 := Scalar.muli v10 c4_i32_268
  let v256 : BitVec 32 := Scalar.addi c0_i32_269 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_270 : BitVec 32 := 2#32
  let v257 : BitVec 32 := Scalar.muli v5 c2_i32_270
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v259 : BitVec 32 := Scalar.muli v8 c1_i32_271
  let v260 : BitVec 32 := Scalar.addi v258 v259
  v260.toNat
def k0_dev35 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v267 : BitVec 32 := Scalar.muli v2 c4_i32_280
  let v268 : BitVec 32 := Scalar.addi c0_i32_281 v267
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_282 : BitVec 32 := 2#32
  let v269 : BitVec 32 := Scalar.muli v11 c2_i32_282
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v271 : BitVec 32 := Scalar.muli v8 c1_i32_283
  let v272 : BitVec 32 := Scalar.addi v270 v271
  v272.toNat
abbrev stage0_0 : Fin 1 → Memref sig .tc .vmem S16x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x512x8x64, .f32⟩
  | .hbm, ⟨4, _⟩ => ⟨S2x512x8x64, .f32⟩
  | .hbm, ⟨5, _⟩ => ⟨S2x512x8x64, .f32⟩
  | .hbm, ⟨6, _⟩ => ⟨S2x8x512x512, .f32⟩
  | .hbm, ⟨7, _⟩ => ⟨S_, .f32⟩
  | .hbm, ⟨8, _⟩ => ⟨S2x8x512x512, .f32⟩
  | .hbm, ⟨9, _⟩ => ⟨S2x8x512x512, .f32⟩
  | .hbm, ⟨10, _⟩ => ⟨S_, .f32⟩
  | .hbm, ⟨11, _⟩ => ⟨S2x8x512, .f32⟩
  | .hbm, ⟨12, _⟩ => ⟨S2x8x512x1, .f32⟩
  | .hbm, ⟨13, _⟩ => ⟨S2x8x512x512, .f32⟩
  | .hbm, ⟨14, _⟩ => ⟨S2x8x512x512, .f32⟩
  | .hbm, ⟨15, _⟩ => ⟨S2x8x512x512, .f32⟩
  | .hbm, ⟨16, _⟩ => ⟨S_, .f32⟩
  | .hbm, ⟨17, _⟩ => ⟨S2x8x512, .f32⟩
  | .hbm, ⟨18, _⟩ => ⟨S2x8x512x1, .f32⟩
  | .hbm, ⟨19, _⟩ => ⟨S2x8x512x512, .f32⟩
  | .hbm, ⟨20, _⟩ => ⟨S2x8x512x512, .f32⟩
  | .hbm, ⟨21, _⟩ => ⟨S2x8x64x512, .f32⟩
  | .hbm, ⟨22, _⟩ => ⟨S2x512x8x64, .f32⟩
  | _, _ => ⟨S2x512x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Mesh.lean ====
/-
  The eight devices: who each one hands its block to, who forwards what to whom, and in which order.
  Device `c` sits at x = c / 4, y = (c / 2) % 2, z = c % 2. Nothing here mentions the program.
-/
module

public import Mathlib.Data.Fin.Basic
public import Mathlib.Data.Fintype.Basic
public import Mathlib.Data.Fintype.Prod
public import Mathlib.Data.Fintype.Sum
public import Mathlib.Tactic.FinCases

@[expose] public section

namespace Cert.Mesh

/-- A device of the mesh. -/
abbrev D : Type := Fin 8

/-- Whether the device sends its keys along z (the others send their values): x = y. -/
def kk (c : D) : Bool := c.val / 4 == (c.val / 2) % 2

/-- Whether the device starts with the lower two chunks: x = 0. -/
def flo (c : D) : Bool := c.val / 4 == 0

/-- The device at the other z, the other x, the other y. -/
def zp (c : D) : D := match c with
  | 0 => 1 | 1 => 0 | 2 => 3 | 3 => 2 | 4 => 5 | 5 => 4 | 6 => 7 | 7 => 6
def xp (c : D) : D := match c with
  | 0 => 4 | 1 => 5 | 2 => 6 | 3 => 7 | 4 => 0 | 5 => 1 | 6 => 2 | 7 => 3
def yp (c : D) : D := match c with
  | 0 => 2 | 1 => 3 | 2 => 0 | 3 => 1 | 4 => 6 | 5 => 7 | 6 => 4 | 7 => 5

/-- The neighbours in the order in which they are signalled: z, x, y. -/
def peer (j : Fin 3) (c : D) : D := match j with | 0 => zp c | 1 => xp c | 2 => yp c

theorem peer_peer (j : Fin 3) (c : D) : peer j (peer j c) = c := by revert j c; decide

/-- The `p`-th chunk the device sends. -/
def ord (c : D) (p : Fin 4) : Fin 4 := if flo c then p else p + 2

/-- Of the four chunks, the first two the device sends are the ones it forwards. -/
def two (p : Fin 2) : Fin 4 := ⟨p.val, by omega⟩

/-- The chunk the device forwards `p`-th. -/
def fwd (c : D) (p : Fin 2) : Fin 4 := ord c (two p)

/-- The neighbour a forward goes to: x first, then y. -/
def fpeer (d : Fin 2) (c : D) : D := match d with | 0 => xp c | 1 => yp c

theorem fpeer_fpeer (d : Fin 2) (c : D) : fpeer d (fpeer d c) = c := by revert d c; decide

/-- Which neighbour chunk `i` of the device's second buffer comes from, and as its how-manieth forward. -/
def dirOf (c : D) (i : Fin 4) : Fin 2 := if flo c = decide (i.val < 2) then 1 else 0
def posOf (i : Fin 4) : Fin 2 := ⟨i.val % 2, by omega⟩

/-- The device chunk `i` of the device's second buffer is forwarded by. -/
def fsrc (c : D) (i : Fin 4) : D := fpeer (dirOf c i) c

theorem zp_zp (c : D) : zp (zp c) = c := by revert c; decide
theorem kk_zp (c : D) : kk (zp c) = kk c := by revert c; decide
theorem ord_zp (c : D) (p : Fin 4) : ord (zp c) p = ord c p := by revert c p; decide
theorem kk_fpeer (d : Fin 2) (c : D) : kk (fpeer d c) = !kk c := by revert d c; decide
theorem fwd_inj (c : D) (p p' : Fin 2) (h : fwd c p = fwd c p') : p = p' := by revert c p p'; decide
theorem ord_inj (c : D) (p p' : Fin 4) (h : ord c p = ord c p') : p = p' := by revert c p p'; decide

/-- A forward's landing: chunk `fwd c p` sent to the neighbour in direction `d` is the chunk that neighbour has from `c`, -/
theorem fsrc_fpeer (c : D) (p d : Fin 2) : fsrc (fpeer d c) (fwd c p) = c := by revert c p d; decide
theorem dirOf_fpeer (c : D) (p d : Fin 2) : dirOf (fpeer d c) (fwd c p) = d := by revert c p d; decide
theorem posOf_fwd (c : D) (p : Fin 2) : posOf (fwd c p) = p := by revert c p; decide
/-- and every chunk of a second buffer comes of one. -/
theorem fwd_fsrc (c : D) (i : Fin 4) : fwd (fsrc c i) (posOf i) = i := by revert c i; decide
theorem fpeer_fsrc (c : D) (i : Fin 4) : fpeer (dirOf c i) (fsrc c i) = c := by revert c i; decide

/-- The forwards of the whole mesh are the chunks of its second buffers: (sender, which, to whom) against (receiver, chunk). -/
def fwdEquiv : D × Fin 2 × Fin 2 ≃ D × Fin 4 where
  toFun e := (fpeer e.2.2 e.1, fwd e.1 e.2.1)
  invFun e := (fsrc e.1 e.2, posOf e.2, dirOf e.1 e.2)
  left_inv e := by
    obtain ⟨c, p, d⟩ := e
    simp only [fsrc_fpeer, posOf_fwd, dirOf_fpeer]
  right_inv e := by
    obtain ⟨c, i⟩ := e
    simp only [fpeer_fsrc, fwd_fsrc]

/-- The chunks in the order a device sends them. -/
noncomputable def ordEquiv (c : D) : Fin 4 ≃ Fin 4 :=
  Equiv.ofBijective (ord c) (Finite.injective_iff_bijective.1 fun p p' h => ord_inj c p p' h)

end Cert.Mesh
-- ==== Proof.Proto.lean ====
/-
  The protocol of the kernel body: which semaphore cell carries which hand-over, and what each hand-over says.

  Device `c` has one barrier cell and sixteen transfer cells. A transfer cell is named by a `Slot`: `s p` and `f p d`
  are paid by the device's own copies having been read (to the other z; its forward `p` in direction `d`), `a p` and
  `b i` by copies landing in it (the `p`-th chunk from the other z; chunk `i` of the second buffer). Every cell has
  one round. What each copy carries is stated of the whole staged arrays `ks`, `vs` of every device.
-/
module

public import proofs.«01_k».proof.Proof.Mesh
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.Kit
public import Idealize.ShloMosaic.Lib.Pipeline.Regions
public import Idealize.ShloMosaic.Lib.Rounds
public import Idealize.ShloMosaic.Lib.Ring
public import Idealize.ShloMosaic.Lib.Tactic
public import Mathlib.Tactic.DeriveFintype

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

/-- Two halves of the state: the pipeline's, and the rounds of the body's own cells (up to three duties a round). -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Slots and their cells -/

/-- The transfer cells of a device. -/
inductive Slot where
  | s (p : Fin 4)
  | f (p d : Fin 2)
  | a (p : Fin 4)
  | b (i : Fin 4)
  deriving DecidableEq, Fintype

/-- The semaphore of a slot, by number: after the four of the staging come the eight of the sends and the eight of the landings. -/
def Slot.ix : Slot → Fin 20
  | .s p => ⟨4 + p.val, by omega⟩
  | .f p d => ⟨8 + 2 * p.val + d.val, by omega⟩
  | .a p => ⟨12 + p.val, by omega⟩
  | .b i => ⟨16 + i.val, by omega⟩

theorem Slot.ix_inj (k k' : Slot) (h : k.ix = k'.ix) : k = k' := by revert k k'; decide

/-- The slot of a semaphore number, if it is one's. -/
def slotAt (n : ℕ) : Option Slot :=
  if n < 4 then none
  else if h : n < 8 then some (.s ⟨n - 4, by omega⟩)
  else if h : n < 12 then some (.f ⟨(n - 8) / 2, by omega⟩ ⟨(n - 8) % 2, by omega⟩)
  else if h : n < 16 then some (.a ⟨n - 12, by omega⟩)
  else if h : n < 20 then some (.b ⟨n - 16, by omega⟩)
  else none

theorem slotAt_ix (k : Slot) : slotAt k.ix.val = some k := by revert k; decide

abbrev dsem (k : Slot) : DmaSem sig := k.ix

def slotOf : SemLoc sig → Option Slot
  | .dma q => slotAt q.val
  | .reg _ => none

theorem slotOf_dsem (k : Slot) : slotOf (.dma (dsem k)) = some k := slotAt_ix k

abbrev barS : Sem sig := sig.barrier 0 rfl
abbrev barCell (c : Dev nD) : GSem nD τ sig := ((c : Thread nD τ), .reg barS)
abbrev cell (c : Dev nD) (k : Slot) : GSem nD τ sig := ((c : Thread nD τ), .dma (dsem k))

theorem dsem_ne_bar (k : Slot) : (SemLoc.dma (dsem k) : SemLoc sig) ≠ .reg barS := fun h => by cases h

/-! ## Chunks -/

/-- A whole staged or received array. -/
abbrev Tns (F : FTy → Type) : Type := S16x256x64.Idx → Elt F .bf16

/-- The elements of chunk `i`: four of the sixteen (batch, head) rows. -/
def chSet (i : Fin 4) : Finset S16x256x64.Idx := Finset.univ.filter fun x => (x 0).val / 4 = i.val

/-- The chunk an element lies in. -/
def chunkOf (x : S16x256x64.Idx) : Fin 4 := ⟨(x 0).val / 4, by have : (x 0).val < 16 := (x 0).isLt; omega⟩

theorem mem_chSet (i : Fin 4) (x : S16x256x64.Idx) : x ∈ chSet i ↔ chunkOf x = i := by
  unfold chSet chunkOf; rw [Finset.mem_filter, Fin.ext_iff]; simp

theorem chSet_disjoint (i j : Fin 4) (h : i ≠ j) : Disjoint (chSet i) (chSet j) :=
  Finset.disjoint_left.2 fun x hx hy => h (((mem_chSet i x).1 hx).symm.trans ((mem_chSet j x).1 hy))

theorem chSet_cover : Finset.univ.biUnion chSet = (Finset.univ : Finset S16x256x64.Idx) := by
  ext x; simp [mem_chSet]

theorem inb_ch (i : Fin 4) : ∀ a, (![4 * i.val, 0, 0] : Fin 3 → ℕ) a + S4x256x64.size a ≤ S16x256x64.size a := by
  intro a; have := i.isLt; fin_cases a <;> simp [S4x256x64, S16x256x64] <;> omega

/-- Chunk `i` of a buffer, as the transfers name it. -/
abbrev cut (B : Memref sig .tc .vmem S16x256x64 .bf16) (i : Fin 4) : Memref sig .tc .vmem S4x256x64 .bf16 :=
  B.slice (Rect.unit (s := S16x256x64) ![4 * i.val, 0, 0] S4x256x64.size (inb_ch i)) (fun _ => rfl)

theorem rect_set (i : Fin 4) : (Rect.unit (s := S16x256x64) ![4 * i.val, 0, 0] S4x256x64.size (inb_ch i)).set = chSet i := by
  ext x
  rw [Rect.mem_set_unit, mem_chSet]
  have h1 : (x 1).val < 256 := (x 1).isLt
  have h2 : (x 2).val < 64 := (x 2).isLt
  unfold chunkOf
  rw [Fin.ext_iff]
  constructor
  · intro h; have := h 0; simp [S4x256x64] at this ⊢; omega
  · intro h a
    simp only at h
    fin_cases a <;> simp [S4x256x64] <;> omega

/-- The four arrays chunks are cut from: the received keys and values, the staged keys and values. -/
abbrev recvM : Bool → Memref sig .tc .vmem S16x256x64 .bf16
  | true => Memref.whole cc0_scratch0
  | false => Memref.whole cc0_scratch1
abbrev stagM : Bool → Memref sig .tc .vmem S16x256x64 .bf16
  | true => Memref.whole cc0_stg1_0
  | false => Memref.whole cc0_stg2_0

/-- Chunk elements `I` of device `c`'s received array `b`, of its staged array `b`, held at `f`. -/
def rPts (b : Bool) (I : Finset S16x256x64.Idx) (c : Dev nD) (q : PosShare TreeShare) (f : Tns F) : sProp 𝕄 :=
  match b with
  | true => (Memref.whole cc0_scratch0 : Memref sig .tc .vmem S16x256x64 .bf16).view.loc (c : Thread nD τ) ↦[I]{q} f
  | false => (Memref.whole cc0_scratch1 : Memref sig .tc .vmem S16x256x64 .bf16).view.loc (c : Thread nD τ) ↦[I]{q} f
def sPts (b : Bool) (I : Finset S16x256x64.Idx) (c : Dev nD) (q : PosShare TreeShare) (f : Tns F) : sProp 𝕄 :=
  match b with
  | true => (Memref.whole cc0_stg1_0 : Memref sig .tc .vmem S16x256x64 .bf16).view.loc (c : Thread nD τ) ↦[I]{q} f
  | false => (Memref.whole cc0_stg2_0 : Memref sig .tc .vmem S16x256x64 .bf16).view.loc (c : Thread nD τ) ↦[I]{q} f

instance (b : Bool) (I : Finset S16x256x64.Idx) (c : Dev nD) (q : PosShare TreeShare) (f : Tns F) :
    BI.Storable (upEmb : UEmb _ 𝕄) (rPts (F := F) b I c q f) := by cases b <;> (unfold rPts; infer_instance)
instance (b : Bool) (I : Finset S16x256x64.Idx) (c : Dev nD) (q : PosShare TreeShare) (f : Tns F) :
    BI.Storable (upEmb : UEmb _ 𝕄) (sPts (F := F) b I c q f) := by cases b <;> (unfold sPts; infer_instance)

/-- What one transfer credits a cell with: every chunk is as large as every other. -/
abbrev N : ℕ := (cut (Memref.whole cc0_scratch0) 0).view.dmaCredit
theorem N_pos : 0 < N := View.dmaCredit_pos _ (by decide)

/-! ## What the arrays hold -/

section Contents

variable (ks vs : Dev nD → Tns F)

/-- What device `c` sends along z: its keys or its values. -/
def src (c : Dev nD) : Tns F := if kk c then ks c else vs c

/-- What device `c`'s first buffer receives (from the other z), what its second (chunk by chunk from the neighbours). -/
def gotA (c : Dev nD) : Tns F := src ks vs (zp c)
def gotB (c : Dev nD) : Tns F := fun x => gotA ks vs (fsrc c (chunkOf x)) x

/-- What each transfer cell's one round hands its owner. -/
def pay (c : Dev nD) : Slot → sProp 𝕄
  | .s p => sPts (kk c) (chSet (ord c p)) c fullShare.left (src ks vs c)
  | .f p d => rPts (kk c) (chSet (fwd c p)) c (if d = 0 then fullShare.left else fullShare.right) (gotA ks vs c)
  | .a p => rPts (kk c) (chSet (ord c p)) c fullShare (gotA ks vs c)
  | .b i => rPts (!kk c) (chSet i) c fullShare (gotB ks vs c)

instance (c : Dev nD) (k : Slot) : BI.Storable (upEmb : UEmb _ 𝕄) (pay (F := F) ks vs c k) := by
  cases k <;> (unfold pay; infer_instance)

/-- Paid to device `c`'s barrier cell by its other z: the chunks of that device's first buffer, and that their cells are at round 0; -/
def roomA (c : Dev nD) (p : Fin 4) : sProp 𝕄 :=
  iprop((∃ f, rPts (kk c) (chSet (ord c p)) (zp c) fullShare f) ∗ reached ER (cell (zp c) (.a p)) 0)
/-- by its neighbour in direction `d`: the two chunks of that device's second buffer which `c` forwards to. -/
def roomB (c : Dev nD) (d p : Fin 2) : sProp 𝕄 :=
  iprop((∃ f, rPts (kk c) (chSet (fwd c p)) (fpeer d c) fullShare f) ∗ reached ER (cell (fpeer d c) (.b (fwd c p))) 0)

def barPay (c : Dev nD) : Fin 3 → sProp 𝕄
  | 0 => bigSep Finset.univ fun p : Fin 4 => roomA c p
  | 1 => bigSep Finset.univ fun p : Fin 2 => roomB c 0 p
  | 2 => bigSep Finset.univ fun p : Fin 2 => roomB c 1 p

instance (c : Dev nD) (p : Fin 4) : BI.Storable (upEmb : UEmb _ 𝕄) (roomA (F := F) c p) := by unfold roomA; infer_instance
instance (c : Dev nD) (d p : Fin 2) : BI.Storable (upEmb : UEmb _ 𝕄) (roomB (F := F) c d p) := by unfold roomB; infer_instance
instance (c : Dev nD) (j : Fin 3) : BI.Storable (upEmb : UEmb _ 𝕄) (barPay (F := F) c j) := by
  fin_cases j <;> (unfold barPay; infer_instance)

/-! ## The schedule -/

/-- One round on every cell: three duties on a barrier cell, one on a transfer cell. -/
def rd : Rounds.Schedule (GSem nD τ sig) (Fin 3) 𝕄 where
  duties g r := if r = 0 ∧ g.1.2 = .tc then (if g.2 = .reg barS then Finset.univ else if (slotOf g.2).isSome then {0} else ∅) else ∅
  unitless _ := False
  amount g _ _ := if g.2 = .reg barS then 1 else N
  payload g _ j := if g.2 = .reg barS then barPay g.1.1 j else match slotOf g.2 with
    | some k => pay ks vs g.1.1 k
    | none => iprop(emp)
  amount_pos g _ _ _ := by
    by_cases h : g.2 = .reg barS
    · rw [if_pos h]; exact Nat.one_pos
    · rw [if_neg h]; exact N_pos

instance rd_payload_storable (g : GSem nD τ sig) (r : ℕ) (j : Fin 3) :
    BI.Storable (upEmb : UEmb _ 𝕄) ((rd (F := F) ks vs).payload g r j) := by
  show BI.Storable upEmb (if g.2 = .reg barS then barPay g.1.1 j else match slotOf g.2 with
    | some k => pay ks vs g.1.1 k
    | none => iprop(emp))
  split
  · infer_instance
  · split <;> infer_instance

variable (c : Dev nD) (k : Slot)

theorem duties_bar : (rd ks vs).duties (barCell c) 0 = Finset.univ := by
  dsimp only [rd]; rw [if_pos ⟨rfl, rfl⟩, if_pos rfl]
theorem duties_cell : (rd ks vs).duties (cell c k) 0 = {0} := by
  dsimp only [rd]; rw [if_pos ⟨rfl, rfl⟩, if_neg (dsem_ne_bar k), slotOf_dsem]; rfl
theorem duties_later (g : GSem nD τ sig) : ∀ r, 1 ≤ r → (rd ks vs).duties g r = ∅ :=
  fun r hr => by dsimp only [rd]; rw [if_neg fun h => by omega]

theorem amount_bar (j : Fin 3) : (rd ks vs).amount (barCell c) 0 j = 1 := by dsimp only [rd]; exact if_pos rfl
theorem amount_cell (j : Fin 3) : (rd ks vs).amount (cell c k) 0 j = N := by dsimp only [rd]; exact if_neg (dsem_ne_bar k)

theorem expect_bar : (rd ks vs).expect (barCell c) 0 = 3 := by
  unfold Schedule.expect Schedule.amountOf
  rw [duties_bar, Finset.sum_congr rfl fun j _ => amount_bar ks vs c j]; rfl
theorem expect_cell : (rd ks vs).expect (cell c k) 0 = N := by
  unfold Schedule.expect Schedule.amountOf; rw [duties_cell, Finset.sum_singleton, amount_cell]

theorem payload_bar (j : Fin 3) : (rd ks vs).payload (barCell c) 0 j = barPay c j := by dsimp only [rd]; exact if_pos rfl
theorem payload_cell (j : Fin 3) : (rd ks vs).payload (cell c k) 0 j = pay ks vs c k := by
  dsimp only [rd]; rw [if_neg (dsem_ne_bar k), slotOf_dsem]

theorem rest_bar : bigSep ((rd ks vs).duties (barCell c) 0 \ ∅) (fun j => (rd ks vs).payload (barCell c) 0 j)
    = bigSep Finset.univ fun j : Fin 3 => (barPay c j : sProp 𝕄) := by
  rw [Finset.sdiff_empty, duties_bar]; exact bigSep_congr fun j _ => payload_bar ks vs c j
theorem rest_cell : bigSep ((rd ks vs).duties (cell c k) 0 \ ∅) (fun j => (rd ks vs).payload (cell c k) 0 j) = pay ks vs c k := by
  rw [Finset.sdiff_empty, duties_cell, bigSep_singleton, payload_cell]

end Contents

/-! ## What each device owes at launch; the levels -/

/-- The units and credits device `c` pays others, the last paid first. -/
def due (c : Dev nD) : ℕ → GSem nD τ sig × ℕ
  | 0 => (cell (yp c) (.b (fwd c 1)), N)
  | 1 => (cell (xp c) (.b (fwd c 1)), N)
  | 2 => (cell (yp c) (.b (fwd c 0)), N)
  | 3 => (cell (xp c) (.b (fwd c 0)), N)
  | 4 => (cell (zp c) (.a 3), N)
  | 5 => (cell (zp c) (.a 2), N)
  | 6 => (cell (zp c) (.a 1), N)
  | 7 => (cell (zp c) (.a 0), N)
  | 8 => (barCell (yp c), 1)
  | 9 => (barCell (xp c), 1)
  | _ => (barCell (zp c), 1)

/-- What is owed with `n` payments outstanding. -/
def owe (c : Dev nD) : ℕ → CellTallies nD τ sig Unit
  | 0 => 0
  | n + 1 => owe c n + tallyAt (due c n).1 () (due c n).2

def L (g : GSem nD τ sig) : Finset Unit := if g.1.2 = .tc then {()} else ∅

/-- Barrier cells at 1, the landings from the other z at 2, those from the other neighbours at 3, the rest at 0. -/
def lvOf (sm : SemLoc sig) : ℕ := if sm = .reg barS then 1 else match slotOf sm with
  | some (.a _) => 2
  | some (.b _) => 3
  | _ => 0
def lv (g : GSem nD τ sig) (_ : Unit) : ℕ := lvOf g.2

theorem lv_bar (c : Dev nD) (u : Unit) : lv (barCell c) u = 1 := by unfold lv lvOf; exact if_pos rfl
theorem lv_cell (c : Dev nD) (k : Slot) (u : Unit) :
    lv (cell c k) u = match k with | .a _ => 2 | .b _ => 3 | _ => 0 := by
  unfold lv lvOf; rw [if_neg (dsem_ne_bar k), slotOf_dsem]; cases k <;> rfl

theorem L_tc (c : Dev nD) (sm : SemLoc sig) : L ((c : Thread nD τ), sm) = {()} := if_pos rfl
theorem L_of_ne (g : GSem nD τ sig) (h : g.1.2 ≠ .tc) : L g = ∅ := if_neg h

/-- A cell owed to is one of the dues. -/
theorem owe_pos (c : Dev nD) (n : ℕ) (g : GSem nD τ sig) (u : Unit) (h : 0 < owe c n g u) : ∃ k < n, g = (due c k).1 := by
  induction n with
  | zero => exact absurd h (Nat.lt_irrefl 0)
  | succ n ih =>
    by_cases hg : g = (due c n).1
    · exact ⟨n, Nat.lt_succ_self n, hg⟩
    · have : owe c (n + 1) g u = owe c n g u + tallyAt (due c n).1 () (due c n).2 g u := rfl
      rw [this, tallyAt_apply, if_neg (fun e => hg e.1), Nat.add_zero] at h
      obtain ⟨k, hk, e⟩ := ih h
      exact ⟨k, Nat.lt_succ_of_lt hk, e⟩

/-- The level of the `n`-th due: forwards, then sends along z, then signals. -/
theorem lv_due (c : Dev nD) (n : ℕ) (u : Unit) : lv (due c n).1 u = if n < 4 then 3 else if n < 8 then 2 else 1 := by
  match n with
  | 0 => exact lv_cell (yp c) (.b (fwd c 1)) u
  | 1 => exact lv_cell (xp c) (.b (fwd c 1)) u
  | 2 => exact lv_cell (yp c) (.b (fwd c 0)) u
  | 3 => exact lv_cell (xp c) (.b (fwd c 0)) u
  | 4 => exact lv_cell (zp c) (.a 3) u
  | 5 => exact lv_cell (zp c) (.a 2) u
  | 6 => exact lv_cell (zp c) (.a 1) u
  | 7 => exact lv_cell (zp c) (.a 0) u
  | 8 => exact lv_bar (yp c) u
  | 9 => exact lv_bar (xp c) u
  | n + 10 => rw [if_neg (by omega), if_neg (by omega)]; exact lv_bar (zp c) u

theorem due_tc (c : Dev nD) (n : ℕ) : (due c n).1.1.2 = .tc := by
  rcases n with _ | _ | _ | _ | _ | _ | _ | _ | _ | _ | n <;> rfl

/-- A wait at a level below those of all that is owed. -/
theorem mayWait (c : Dev nD) (sm : SemLoc sig) (n : ℕ) (h : lvOf sm < (if n ≤ 4 then 3 else if n ≤ 8 then 2 else 1)) :
    (levAts L lv : sProp 𝕄) ⊢ MayWait (c : Thread nD τ) sm () (owe c n) :=
  MayOwe.of_cut (L := L) (lev := lv) (lvOf sm) (fun p hp => by rw [Finset.mem_singleton.mp hp, L_tc]; exact Finset.mem_singleton_self _)
    (fun g u hg => by
      obtain ⟨k, -, rfl⟩ := owe_pos c n g u hg
      unfold L; rw [if_pos (due_tc c k)]; exact Finset.mem_singleton_self _)
    (fun p hp => by rw [Finset.mem_singleton.mp hp]; exact Nat.le_refl _)
    (fun g u hg => by
      obtain ⟨k, hk, rfl⟩ := owe_pos c n g u hg
      rw [lv_due]
      split at h
      · rw [if_pos (by omega)]; exact h
      · split at h
        · split <;> first | omega | (rw [if_pos (by omega)]; exact h)
        · split <;> first | omega | (split <;> omega))

end Cert.Kernel.Attn

end
-- ==== Proof.Steps.lean ====
/-
  The steps of the kernel body, each once for every device and chunk: a copy to the other z, a forward, a wait on a
  transfer cell, a signal to a neighbour's barrier cell, the barrier wait.
-/
module

public import proofs.«01_k».proof.Proof.Proto

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

local notation "𝕄" => MT nD τ sig Unit (Elt F) ℕ UU ℕ

/-! ## Chunks through the transfers' views -/

theorem rset_true (i : Fin 4) : (cut (recvM true) i).view.set = chSet i := (View.set_slice_whole _ _).trans (rect_set i)
theorem rset_false (i : Fin 4) : (cut (recvM false) i).view.set = chSet i := (View.set_slice_whole _ _).trans (rect_set i)

theorem rcut_true (i : Fin 4) (c : Dev nD) (q : PosShare TreeShare) (f : Tns F) :
    ((cut (recvM true) i).view.loc (c : Thread nD τ) ↦[(cut (recvM true) i).view.set]{q} f : sProp 𝕄) = rPts true (chSet i) c q f := by
  unfold rPts
  rw [rset_true]
theorem rcut_false (i : Fin 4) (c : Dev nD) (q : PosShare TreeShare) (f : Tns F) :
    ((cut (recvM false) i).view.loc (c : Thread nD τ) ↦[(cut (recvM false) i).view.set]{q} f : sProp 𝕄) = rPts false (chSet i) c q f := by
  unfold rPts
  rw [rset_false]
theorem scut_true (i : Fin 4) (c : Dev nD) (q : PosShare TreeShare) (f : Tns F) :
    ((cut (stagM true) i).view.loc (c : Thread nD τ) ↦[(cut (stagM true) i).view.set]{q} f : sProp 𝕄) = sPts true (chSet i) c q f := by
  unfold sPts
  rw [show (cut (stagM true) i).view.set = chSet i from (View.set_slice_whole _ _).trans (rect_set i)]
theorem scut_false (i : Fin 4) (c : Dev nD) (q : PosShare TreeShare) (f : Tns F) :
    ((cut (stagM false) i).view.loc (c : Thread nD τ) ↦[(cut (stagM false) i).view.set]{q} f : sProp 𝕄) = sPts false (chSet i) c q f := by
  unfold sPts
  rw [show (cut (stagM false) i).view.set = chSet i from (View.set_slice_whole _ _).trans (rect_set i)]

/-- Contents that agree on the chunk are one. -/
theorem rPts_congr (b : Bool) (I : Finset S16x256x64.Idx) (c : Dev nD) (q : PosShare TreeShare) (f g : Tns F) (h : ∀ x ∈ I, f x = g x) :
    (rPts b I c q f : sProp 𝕄) = rPts b I c q g := by
  cases b <;> (unfold rPts; exact pointsTo_congr h)

/-- A chunk copied from a staged or received array into a received one holds there what the source holds. -/
theorem land_s_true (i : Fin 4) (fd fs : Tns F) (x : S16x256x64.Idx) (hx : x ∈ chSet i) :
    (cut (recvM true) i).view.write (Elt F) fd ((cut (stagM true) i).view.read (Elt F) fs) Finset.univ x = fs x := by
  obtain ⟨y, -, rfl⟩ := Finset.mem_map.1 ((rset_true i).symm ▸ hx)
  exact (View.write_emb_of_mem _ _ (Finset.mem_univ y)).trans rfl
theorem land_s_false (i : Fin 4) (fd fs : Tns F) (x : S16x256x64.Idx) (hx : x ∈ chSet i) :
    (cut (recvM false) i).view.write (Elt F) fd ((cut (stagM false) i).view.read (Elt F) fs) Finset.univ x = fs x := by
  obtain ⟨y, -, rfl⟩ := Finset.mem_map.1 ((rset_false i).symm ▸ hx)
  exact (View.write_emb_of_mem _ _ (Finset.mem_univ y)).trans rfl
theorem land_r_true (i : Fin 4) (fd fs : Tns F) (x : S16x256x64.Idx) (hx : x ∈ chSet i) :
    (cut (recvM true) i).view.write (Elt F) fd ((cut (recvM true) i).view.read (Elt F) fs) Finset.univ x = fs x := by
  obtain ⟨y, -, rfl⟩ := Finset.mem_map.1 ((rset_true i).symm ▸ hx)
  exact (View.write_emb_of_mem _ _ (Finset.mem_univ y)).trans rfl
theorem land_r_false (i : Fin 4) (fd fs : Tns F) (x : S16x256x64.Idx) (hx : x ∈ chSet i) :
    (cut (recvM false) i).view.write (Elt F) fd ((cut (recvM false) i).view.read (Elt F) fs) Finset.univ x = fs x := by
  obtain ⟨y, -, rfl⟩ := Finset.mem_map.1 ((rset_false i).symm ▸ hx)
  exact (View.write_emb_of_mem _ _ (Finset.mem_univ y)).trans rfl

theorem credit_cut (b : Bool) (i : Fin 4) : (cut (recvM b) i).view.dmaCredit = N := by cases b <;> rfl

section Step

variable (ks vs : Dev nD → Tns F) (K : GSem nD τ sig → ℕ)

/-- The cells of the mesh, as `Rounds` is handed them: the barrier cells, allocated for the executable; the transfer
    cells, the kernel's own. -/
def barEmb : Dev nD ↪ GSem nD τ sig := ⟨fun c => barCell c, fun c c' h => congrArg (fun g : GSem nD τ sig => g.1.1) h⟩
def cellEmb : Dev nD × Slot ↪ GSem nD τ sig := ⟨fun e => cell e.1 e.2, fun ⟨c, k⟩ ⟨c', k'⟩ h => by
  have hc : c = c' := congrArg (fun g : GSem nD τ sig => g.1.1) h
  have hk : (SemLoc.dma (dsem k) : SemLoc sig) = .dma (dsem k') := congrArg (fun g : GSem nD τ sig => g.2) h
  have hk' : dsem k = dsem k' := by injection hk
  exact Prod.ext hc (Slot.ix_inj k k' hk')⟩
def barCells : Finset (GSem nD τ sig) := Finset.univ.map barEmb
def xCells : Finset (GSem nD τ sig) := Finset.univ.map cellEmb

theorem bar_mem (c : Dev nD) : barCell c ∈ barCells ∪ xCells :=
  Finset.mem_union_left _ (Finset.mem_map_of_mem barEmb (Finset.mem_univ c))
theorem cell_mem (c : Dev nD) (k : Slot) : cell c k ∈ barCells ∪ xCells :=
  Finset.mem_union_right _ (Finset.mem_map_of_mem cellEmb (Finset.mem_univ (c, k)))

/-- The invariants of all the mesh's cells, at the names they were allocated at. -/
def recs : sProp 𝕄 := bigSep (barCells ∪ xCells) fun g => cellInv ER (rd ks vs) (K g) g

instance recs_persistent : BI.Persistent (recs ks vs K) := by unfold recs; infer_instance

theorem recs_bar (c : Dev nD) : recs ks vs K ⊢ cellInv ER (rd ks vs) (K (barCell c)) (barCell c) := bigSep_elim (bar_mem c)
theorem recs_cell (c : Dev nD) (k : Slot) : recs ks vs K ⊢ cellInv ER (rd ks vs) (K (cell c k)) (cell c k) := bigSep_elim (cell_mem c k)

/-- The device owes its last `n` payments, having waited as it may have. -/
def owing (c : Dev nD) (n : ℕ) : sProp 𝕄 := iprop(∃ W, owes (c : Thread nD τ) (owe c n) W)

abbrev 𝒱₀ : Variants := Variants.none

variable {α : Type} (c : Dev nD)

/-- Closing a cell past its one round: its counter in hand, at zero. -/
theorem close (κ : ℕ) (g : GSem nD τ sig) :
    iprop(cellInv ER (rd ks vs) κ g ∗ atPos ER g (0 + 1) ∅ 0) ⊢ (|={Set.univ}=> semVal g 0 : sProp 𝕄) :=
  Rounds.cell_close ER (rd ks vs) (Set.mem_univ κ) id (duties_later ks vs g)

/-- What a copy is issued with besides its source and its room: the tokens of the two duties it pays. -/
def toks (c c' : Dev nD) (k k' : Slot) : sProp 𝕄 :=
  iprop(dutyTok ER (cell c k) 0 0 ∗ reached ER (cell c k) 0 ∗ dutyTok ER (cell c' k') 0 0 ∗ reached ER (cell c' k') 0)

theorem owe_succ (n : ℕ) : owe c (n + 1) = owe c n + tallyAt (due c n).1 () (due c n).2 := rfl

/-- A copy of a chunk to another device: pays the sender's cell `k` with the source, the receiver's cell `k'` with the landed chunk. -/
theorem wp_copyTo {c' : Dev nD} {src dst : Memref sig .tc .vmem S4x256x64 .bf16} {k k' : Slot} {n : ℕ}
    {hsc : dst.view.ref.isScScratch = false} {hsrc : src.view.WordExact} {hdst : dst.view.WordExact}
    {hsem : DmaTarget.Typed .vmem (.dma (dsem k')) (.remote (c' : Thread nD τ) dst (.dma (dsem k)) hsc)}
    {cont : PUnit → Prog (TpuEff nD τ sig (Elt F) Λ₀ .tc) α} {Q : α → sProp 𝕄}
    {q : PosShare TreeShare} {fs : Buf (Elt F) (src.view.loc (c : Thread nD τ))}
    (hN : dst.view.dmaCredit = N) (hdue : due c n = (cell c' k', N))
    {S D : sProp 𝕄} (hS : S ⊢ (src.view.loc (c : Thread nD τ) ↦[src.view.set]{q} fs))
    (hD : D ⊢ iprop(∃ fd, (dst.view.loc (c' : Thread nD τ) ↦[dst.view.set]{fullShare} fd)))
    (hpay₁ : (src.view.loc (c : Thread nD τ) ↦[src.view.set]{q} fs) ⊢ pay ks vs c k)
    (hpay₂ : ∀ fd, (dst.view.loc (c' : Thread nD τ) ↦[dst.view.set]{fullShare} (dst.view.write (Elt F) fd (src.view.read (Elt F) fs) Finset.univ))
      ⊢ pay ks vs c' k') (hr : τ.routes (c : Thread nD τ) (c' : Thread nD τ) = true) :
    iprop(recs ks vs K ∗ S ∗ D ∗ toks c c' k k' ∗ owing c (n + 1))
      ⊢ iprop(((cred (tallyAt (cell c k) () N) ∗ owing c n) -∗ wp frame (wpE (defs₀ (F := F)) 𝒱₀ c none) Set.univ (cont ⟨⟩) Q)
          -∗ wp frame (wpE (defs₀ (F := F)) 𝒱₀ c none) Set.univ (.op (.enqueueDma src (.remote (c' : Thread nD τ) dst (.dma (dsem k)) hsc) (.dma (dsem k')) hsrc hdst hsem) cont) Q) := by
  unfold toks owing
  iintro ⟨#HI, HS, HD, ⟨Ht, #Hr, Ht', #Hr'⟩, ⟨%W, HO⟩⟩ Hk
  ihave HS := hS $$ HS
  ihave HD := hD $$ HD
  icases HD with ⟨%fd, HD⟩
  iapply (Rounds.wp_send_pointsTo 𝒱₀ ER (rd ks vs) (c : Thread nD τ) none (c' := (c' : Thread nD τ)) (src := src) (dst := dst)
      (sS := .dma (dsem k)) (sem := .dma (dsem k')) (q := q) (fs := fs) (κ₁ := K (cell c k)) (κ₂ := K (cell c' k'))
      (r₁ := 0) (r₂ := 0) (d₁ := 0) (d₂ := 0) (fd := fd)
      (by rw [duties_cell]; exact Finset.mem_singleton_self _) (by rw [duties_cell]; exact Finset.mem_singleton_self _)
      () () N hN (amount_cell ks vs c k 0) (amount_cell ks vs c' k' 0) (owe c n)
      (show owe c (n + 1) = owe c n + tallyAt (cell c' k') () N by rw [owe_succ, hdue]) (W := W)
      (by rw [payload_cell]; exact hpay₁)
      (by rw [payload_cell]; exact hpay₂ fd) hr) $$ [HS HD HO Ht Ht']
  · isplitr; · iapply (recs_cell ks vs K c k); iexact HI
    isplitr; · iapply (recs_cell ks vs K c' k'); iexact HI
    isplitl [HS]; · iexact HS
    isplitl [HD]; · iexact HD
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

theorem pay_s (c : Dev nD) (p : Fin 4) : pay ks vs c (.s p) = sPts (kk c) (chSet (ord c p)) c fullShare.left (src ks vs c) := rfl
theorem pay_a (c : Dev nD) (p : Fin 4) : pay ks vs c (.a p) = rPts (kk c) (chSet (ord c p)) c fullShare (gotA ks vs c) := rfl
theorem pay_b (c : Dev nD) (i : Fin 4) : pay ks vs c (.b i) = rPts (!kk c) (chSet i) c fullShare (gotB ks vs c) := rfl

/-- The chunk the device sends `p`-th, with the room for it on the other z and the tokens its copy takes. -/
def sendA (p : Fin 4) : sProp 𝕄 :=
  iprop(sPts (kk c) (chSet (ord c p)) c fullShare.left (src ks vs c)
    ∗ (∃ f, rPts (kk c) (chSet (ord c p)) (zp c) fullShare f) ∗ toks c (zp c) (.s p) (.a p))

/-- The copy of the `p`-th chunk to the other z. -/
theorem wp_sendA {b : Bool} {p i : Fin 4} {n : ℕ} {c' : Dev nD} {sr dst : Memref sig .tc .vmem S4x256x64 .bf16} {sS sR : DmaSem sig}
    {hsc : dst.view.ref.isScScratch = false} {hsrc : sr.view.WordExact} {hdst : dst.view.WordExact}
    {hsem : DmaTarget.Typed .vmem (.dma sR) (.remote (c' : Thread nD τ) dst (.dma sS) hsc)}
    {cont : PUnit → Prog (TpuEff nD τ sig (Elt F) Λ₀ .tc) α} {Q : α → sProp 𝕄}
    (hb : kk c = b) (hi : ord c p = i) (hc' : c' = zp c) (h₁ : sr = cut (stagM b) i) (h₂ : dst = cut (recvM b) i)
    (h₃ : sS = dsem (.s p)) (h₄ : sR = dsem (.a p)) (hdue : due c n = (cell (zp c) (.a p), N)) :
    iprop(recs ks vs K ∗ sendA ks vs c p ∗ owing c (n + 1))
      ⊢ iprop(((cred (tallyAt (cell c (.s p)) () N) ∗ owing c n) -∗ wp frame (wpE (defs₀ (F := F)) 𝒱₀ c none) Set.univ (cont ⟨⟩) Q)
          -∗ wp frame (wpE (defs₀ (F := F)) 𝒱₀ c none) Set.univ (.op (.enqueueDma sr (.remote (c' : Thread nD τ) dst (.dma sS) hsc) (.dma sR) hsrc hdst hsem) cont) Q) := by
  subst hc' h₁ h₂ h₃ h₄ hi
  unfold sendA
  iintro ⟨#HI, ⟨HS, HD, Ht⟩, HO⟩ Hk
  cases b
  · iapply (wp_copyTo ks vs K c (c' := zp c) (k := .s p) (k' := .a p) (n := n) (q := fullShare.left) (fs := src ks vs c) (credit_cut false _) hdue
      (S := sPts (kk c) (chSet (ord c p)) c fullShare.left (src ks vs c)) (D := iprop(∃ f, rPts (kk c) (chSet (ord c p)) (zp c) fullShare f))
      (Entails.of_eq (by rw [hb]; exact (scut_false _ _ _ _).symm))
      (by rw [hb]; iintro ⟨%f, H⟩; iexists f; iapply (Entails.of_eq (rcut_false _ _ _ f).symm); iexact H)
      (Entails.of_eq (by unfold pay; rw [hb]; exact scut_false _ _ _ _))
      (fun fd => Entails.of_eq (by
        rw [pay_a]; unfold gotA; rw [kk_zp, ord_zp, zp_zp, hb]
        exact (rcut_false _ _ _ _).trans (rPts_congr _ _ _ _ _ _ fun x hx => land_s_false _ _ _ x hx))) (by routes)) $$ [HS HD Ht HO]
    · isplitr; · iexact HI
      isplitl [HS]; · iexact HS
      isplitl [HD]; · iexact HD
      isplitl [Ht]; · iexact Ht
      iexact HO
    iexact Hk
  · iapply (wp_copyTo ks vs K c (c' := zp c) (k := .s p) (k' := .a p) (n := n) (q := fullShare.left) (fs := src ks vs c) (credit_cut true _) hdue
      (S := sPts (kk c) (chSet (ord c p)) c fullShare.left (src ks vs c)) (D := iprop(∃ f, rPts (kk c) (chSet (ord c p)) (zp c) fullShare f))
      (Entails.of_eq (by rw [hb]; exact (scut_true _ _ _ _).symm))
      (by rw [hb]; iintro ⟨%f, H⟩; iexists f; iapply (Entails.of_eq (rcut_true _ _ _ f).symm); iexact H)
      (Entails.of_eq (by unfold pay; rw [hb]; exact scut_true _ _ _ _))
      (fun fd => Entails.of_eq (by
        rw [pay_a]; unfold gotA; rw [kk_zp, ord_zp, zp_zp, hb]
        exact (rcut_true _ _ _ _).trans (rPts_congr _ _ _ _ _ _ fun x hx => land_s_true _ _ _ x hx))) (by routes)) $$ [HS HD Ht HO]
    · isplitr; · iexact HI
      isplitl [HS]; · iexact HS
      isplitl [HD]; · iexact HD
      isplitl [Ht]; · iexact Ht
      iexact HO
    iexact Hk

/-- The half of a received chunk that goes with the forward in direction `d`. -/
abbrev halfOf (d : Fin 2) : PosShare TreeShare := if d = 0 then fullShare.left else fullShare.right

/-- The room and the tokens of forward `p` in direction `d`; -/
def roomF (p d : Fin 2) : sProp 𝕄 :=
  iprop((∃ f, rPts (kk c) (chSet (fwd c p)) (fpeer d c) fullShare f) ∗ toks c (fpeer d c) (.f p d) (.b (fwd c p)))
/-- the received chunk it is made from. -/
def halfF (p d : Fin 2) : sProp 𝕄 := rPts (kk c) (chSet (fwd c p)) c (halfOf d) (gotA ks vs c)

theorem pay_f (c : Dev nD) (p d : Fin 2) : pay ks vs c (.f p d) = rPts (kk c) (chSet (fwd c p)) c (halfOf d) (gotA ks vs c) := rfl

/-- Forward `p` in direction `d`. -/
theorem wp_sendF {b : Bool} {p d : Fin 2} {i : Fin 4} {n : ℕ} {c' : Dev nD} {sr dst : Memref sig .tc .vmem S4x256x64 .bf16} {sS sR : DmaSem sig}
    {hsc : dst.view.ref.isScScratch = false} {hsrc : sr.view.WordExact} {hdst : dst.view.WordExact}
    {hsem : DmaTarget.Typed .vmem (.dma sR) (.remote (c' : Thread nD τ) dst (.dma sS) hsc)}
    {cont : PUnit → Prog (TpuEff nD τ sig (Elt F) Λ₀ .tc) α} {Q : α → sProp 𝕄}
    (hb : kk c = b) (hi : fwd c p = i) (hc' : c' = fpeer d c) (h₁ : sr = cut (recvM b) i) (h₂ : dst = cut (recvM b) i)
    (h₃ : sS = dsem (.f p d)) (h₄ : sR = dsem (.b i)) (hdue : due c n = (cell (fpeer d c) (.b (fwd c p)), N)) :
    iprop(recs ks vs K ∗ halfF ks vs c p d ∗ roomF c p d ∗ owing c (n + 1))
      ⊢ iprop(((cred (tallyAt (cell c (.f p d)) () N) ∗ owing c n) -∗ wp frame (wpE (defs₀ (F := F)) 𝒱₀ c none) Set.univ (cont ⟨⟩) Q)
          -∗ wp frame (wpE (defs₀ (F := F)) 𝒱₀ c none) Set.univ (.op (.enqueueDma sr (.remote (c' : Thread nD τ) dst (.dma sS) hsc) (.dma sR) hsrc hdst hsem) cont) Q) := by
  subst hc' h₁ h₂ h₃ h₄ hi
  have hB : ∀ x ∈ chSet (fwd c p), gotA ks vs c x = gotB ks vs (fpeer d c) x := fun x hx => by
    unfold gotB; rw [(mem_chSet _ _).1 hx, fsrc_fpeer]
  have hk' : (!kk (fpeer d c)) = kk c := by rw [kk_fpeer, Bool.not_not]
  unfold halfF roomF
  iintro ⟨#HI, HS, ⟨HD, Ht⟩, HO⟩ Hk
  cases b
  · iapply (wp_copyTo ks vs K c (c' := fpeer d c) (k := .f p d) (k' := .b (fwd c p)) (n := n) (q := halfOf d) (fs := gotA ks vs c) (credit_cut false _) hdue
      (S := rPts (kk c) (chSet (fwd c p)) c (halfOf d) (gotA ks vs c)) (D := iprop(∃ f, rPts (kk c) (chSet (fwd c p)) (fpeer d c) fullShare f))
      (Entails.of_eq (by rw [hb]; exact (rcut_false _ _ _ _).symm))
      (by rw [hb]; iintro ⟨%f, H⟩; iexists f; iapply (Entails.of_eq (rcut_false _ _ _ f).symm); iexact H)
      (Entails.of_eq (by unfold pay; rw [hb]; exact rcut_false _ _ _ _))
      (fun fd => Entails.of_eq (by
        rw [pay_b, hk', hb]
        exact (rcut_false _ _ _ _).trans (rPts_congr _ _ _ _ _ _ fun x hx => (land_r_false _ _ _ x hx).trans (hB x hx)))) (by routes)) $$ [HS HD Ht HO]
    · isplitr; · iexact HI
      isplitl [HS]; · iexact HS
      isplitl [HD]; · iexact HD
      isplitl [Ht]; · iexact Ht
      iexact HO
    iexact Hk
  · iapply (wp_copyTo ks vs K c (c' := fpeer d c) (k := .f p d) (k' := .b (fwd c p)) (n := n) (q := halfOf d) (fs := gotA ks vs c) (credit_cut true _) hdue
      (S := rPts (kk c) (chSet (fwd c p)) c (halfOf d) (gotA ks vs c)) (D := iprop(∃ f, rPts (kk c) (chSet (fwd c p)) (fpeer d c) fullShare f))
      (Entails.of_eq (by rw [hb]; exact (rcut_true _ _ _ _).symm))
      (by rw [hb]; iintro ⟨%f, H⟩; iexists f; iapply (Entails.of_eq (rcut_true _ _ _ f).symm); iexact H)
      (Entails.of_eq (by unfold pay; rw [hb]; exact rcut_true _ _ _ _))
      (fun fd => Entails.of_eq (by
        rw [pay_b, hk', hb]
        exact (rcut_true _ _ _ _).trans (rPts_congr _ _ _ _ _ _ fun x hx => (land_r_true _ _ _ x hx).trans (hB x hx)))) (by routes)) $$ [HS HD Ht HO]
    · isplitr; · iexact HI
      isplitl [HS]; · iexact HS
      isplitl [HD]; · iexact HD
      isplitl [Ht]; · iexact Ht
      iexact HO
    iexact Hk

/-- What a wait on a transfer cell spends. -/
def ready (k : Slot) : sProp 𝕄 := iprop(cred (tallyAt (cell c k) () N) ∗ atPos ER (cell c k) 0 ∅ 0)
/-- What it leaves: the cell's counter, at zero, and what was handed over. -/
def done (k : Slot) : sProp 𝕄 := iprop(semVal (cell c k) 0 ∗ pay ks vs c k)

/-- A wait on a transfer cell, at a level below those of what is still owed. -/
theorem wp_waitCell {k : Slot} {n : ℕ} {q : DmaSem sig} {sr dst : Memref sig .tc .vmem S4x256x64 .bf16}
    {hsrc : sr.view.WordExact} {hdst : dst.view.WordExact}
    {cont : PUnit → Prog (TpuEff nD τ sig (Elt F) Λ₀ .tc) α} {Q : α → sProp 𝕄}
    (hq : q = dsem k) (hN : dst.view.dmaCredit = N) (h : lvOf (.dma (dsem k)) < (if n ≤ 4 then 3 else if n ≤ 8 then 2 else 1) ∨ n = 0) :
    iprop(recs ks vs K ∗ levAts L lv ∗ ready c k ∗ owing c n)
      ⊢ iprop(((done ks vs c k ∗ owing c n) -∗ wp frame (wpE (defs₀ (F := F)) 𝒱₀ c none) Set.univ (cont ⟨⟩) Q)
          -∗ wp frame (wpE (defs₀ (F := F)) 𝒱₀ c none) Set.univ (.op (.waitDma2 q sr dst hsrc hdst) cont) Q) := by
  subst hq
  have hmw : (levAts L lv : sProp 𝕄) ⊢ MayWait (c : Thread nD τ) (.dma (dsem k)) () (owe c n) := by
    rcases h with h | rfl
    · exact mayWait c _ n h
    · show _ ⊢ MayWait (c : Thread nD τ) (.dma (dsem k)) () (0 : CellTallies nD τ sig Unit)
      rw [MayWait_zero]; iintro -; iempintro
  unfold ready owing done
  iintro ⟨#HI, #Hlev, ⟨Hc, Hat⟩, ⟨%W, HO⟩⟩ Hk
  iapply (Rounds.wp_wait_rest_token 𝒱₀ ER (rd ks vs) (c : Thread nD τ) none (κ := K (cell c k))
      (wpE_waitDma2_eq 𝒱₀ (c : Thread nD τ) none Set.univ) (Set.mem_univ _) () (O := owe c n) (W := W) (R := 0) (m := 0) (T := ∅)
      ((Nat.zero_add _).trans (hN.trans (expect_cell ks vs c k).symm))) $$ [Hc HO Hat]
  · rw [hN]
    isplitr; · iapply (recs_cell ks vs K c k); iexact HI
    isplitl [Hc]; · iexact Hc
    isplitl [HO]; · iexact HO
    isplitr; · iapply hmw; iexact Hlev
    iexact Hat
  iintro ⟨HO, Hat, -, Hpay⟩
  ihave Hp := (Entails.of_eq (rest_cell ks vs c k)) $$ Hpay
  iapply fupd_wp
  imod (close ks vs (K (cell c k)) (cell c k)) $$ [Hat] with Hv
  · isplitr; · iapply (recs_cell ks vs K c k); iexact HI
    iexact Hat
  imodintro
  iapply Hk
  isplitl [Hv Hp]
  · isplitl [Hv] <;> iassumption
  iexists _; iexact HO

/-- What a signal to a neighbour's barrier cell spends besides what it hands over. -/
def ring (j : Fin 3) : sProp 𝕄 := iprop(dutyTok ER (barCell (peer j c)) 0 j ∗ reached ER (barCell (peer j c)) 0)

/-- A signal to a neighbour's barrier cell, with the room the neighbour may fill. -/
theorem wp_ring {j : Fin 3} {n : ℕ} {c' : Dev nD} {sm : Sem sig} {k' : ℕ} {cont : PUnit → Prog (TpuEff nD τ sig (Elt F) Λ₀ .tc) α} {Q : α → sProp 𝕄}
    (hc' : c' = peer j c) (hsm : sm = barS) (hk' : k' = 1) (hdue : due c n = (barCell (peer j c), 1)) :
    iprop(recs ks vs K ∗ barPay (peer j c) j ∗ ring c j ∗ owing c (n + 1))
      ⊢ iprop((owing c n -∗ wp frame (wpE (defs₀ (F := F)) 𝒱₀ c none) Set.univ (cont ⟨⟩) Q)
          -∗ wp frame (wpE (defs₀ (F := F)) 𝒱₀ c none) Set.univ (.op (.semSignal (c' : Thread nD τ) sm k') cont) Q) := by
  subst hc' hsm hk'
  unfold owing ring
  iintro ⟨#HI, Hp, ⟨Ht, #Hr⟩, ⟨%W, HO⟩⟩ Hk
  iapply (Rounds.wp_signal 𝒱₀ ER (rd ks vs) (c : Thread nD τ) none (dst := (peer j c : Thread nD τ)) (sem := barS) (r := 0) (d := j) (κ := K (barCell (peer j c)))
      (by rw [duties_bar]; exact Finset.mem_univ _) (amount_bar ks vs (peer j c) j) () (owe c n) ((owe_succ c n).trans (by rw [hdue]))) $$ [HO Ht Hp]
  · isplitr; · iapply (recs_bar ks vs K (peer j c)); iexact HI
    isplitl [HO]; · iexact HO
    isplitl [Ht]; · iexact Ht
    isplitl [Hp]; · rw [payload_bar]; iexact Hp
    iexact Hr
  iintro HO
  iapply Hk
  iexists W; iexact HO

/-- The barrier wait: all three neighbours' rooms. -/
theorem wp_waitBar {sm : Sem sig} {k' : ℕ} {cont : PUnit → Prog (TpuEff nD τ sig (Elt F) Λ₀ .tc) α} {Q : α → sProp 𝕄}
    (hsm : sm = barS) (hk' : k' = 3) :
    iprop(recs ks vs K ∗ levAts L lv ∗ (cred (tallyAt (barCell c) () 3) ∗ atPos ER (barCell c) 0 ∅ 0) ∗ owing c 8)
      ⊢ iprop(((semVal (barCell c) 0 ∗ (bigSep Finset.univ fun j : Fin 3 => barPay c j) ∗ owing c 8) -∗ wp frame (wpE (defs₀ (F := F)) 𝒱₀ c none) Set.univ (cont ⟨⟩) Q)
          -∗ wp frame (wpE (defs₀ (F := F)) 𝒱₀ c none) Set.univ (.op (.semWait sm k') cont) Q) := by
  subst hsm hk'
  unfold owing
  iintro ⟨#HI, #Hlev, ⟨Hc, Hat⟩, ⟨%W, HO⟩⟩ Hk
  iapply (Rounds.wp_wait_rest_token 𝒱₀ ER (rd ks vs) (c : Thread nD τ) none (κ := K (barCell c))
      (wpE_semWait_eq 𝒱₀ (c : Thread nD τ) none Set.univ) (Set.mem_univ _) () (O := owe c 8) (W := W) (R := 0) (m := 0) (T := ∅)
      ((Nat.zero_add 3).trans (expect_bar ks vs c).symm)) $$ [Hc HO Hat]
  · isplitr; · iapply (recs_bar ks vs K c); iexact HI
    isplitl [Hc]; · iexact Hc
    isplitl [HO]; · iexact HO
    isplitr; · iapply (mayWait c (.reg barS) 8 (by unfold lvOf; rw [if_pos rfl]; decide)); iexact Hlev
    iexact Hat
  iintro ⟨HO, Hat, -, Hpay⟩
  ihave Hp := (Entails.of_eq (rest_bar ks vs c)) $$ Hpay
  iapply fupd_wp
  imod (close ks vs (K (barCell c)) (barCell c)) $$ [Hat] with Hv
  · isplitr; · iapply (recs_bar ks vs K c); iexact HI
    iexact Hat
  imodintro
  iapply Hk
  isplitl [Hv]; · iexact Hv
  isplitl [Hp]; · iexact Hp
  iexists _; iexact HO

end Step

end Cert.Kernel.Attn

end
-- ==== Proof.Chunks.lean ====
/-
  Cutting the arrays into chunks and putting them together again: the rooms a device gives away at the barrier, the
  rooms it gets, and the received arrays it holds at the end.
-/
module

public import proofs.«01_k».proof.Proof.Steps

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

local notation "𝕄" => MT nD τ sig Unit (Elt F) ℕ UU ℕ

/-! ## Sums over few indices, written out -/

theorem bigSep2 (Φ : Fin 2 → sProp 𝕄) : bigSep Finset.univ Φ = iprop(Φ 0 ∗ Φ 1) := by
  rw [show (Finset.univ : Finset (Fin 2)) = insert 0 {1} from by decide, bigSep_insert (by decide), bigSep_singleton]; rfl
theorem bigSep3 (Φ : Fin 3 → sProp 𝕄) : bigSep Finset.univ Φ = iprop(Φ 0 ∗ Φ 1 ∗ Φ 2) := by
  rw [show (Finset.univ : Finset (Fin 3)) = insert 0 (insert 1 {2}) from by decide, bigSep_insert (by decide), bigSep_insert (by decide),
    bigSep_singleton]; rfl
theorem bigSep4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) from by decide, bigSep_insert (by decide),
    bigSep_insert (by decide), bigSep_insert (by decide), bigSep_singleton]; rfl

/-- The slots by kind. -/
theorem bigSep_slot (Φ : Slot → sProp 𝕄) :
    bigSep Finset.univ Φ = iprop((bigSep Finset.univ fun p => Φ (.s p)) ∗ (bigSep Finset.univ fun e : Fin 2 × Fin 2 => Φ (.f e.1 e.2))
      ∗ (bigSep Finset.univ fun p => Φ (.a p)) ∗ (bigSep Finset.univ fun i => Φ (.b i))) := by
  let e : (Fin 4 ⊕ (Fin 2 × Fin 2)) ⊕ (Fin 4 ⊕ Fin 4) ≃ Slot :=
    { toFun := fun x => match x with
        | .inl (.inl p) => .s p | .inl (.inr e) => .f e.1 e.2 | .inr (.inl p) => .a p | .inr (.inr i) => .b i
      invFun := fun k => match k with
        | .s p => .inl (.inl p) | .f p d => .inl (.inr (p, d)) | .a p => .inr (.inl p) | .b i => .inr (.inr i)
      left_inv := fun x => by rcases x with (x | x) | (x | x) <;> rfl
      right_inv := fun k => by cases k <;> rfl }
  rw [bigSep_univ_equiv e, bigSep_univ_sum, bigSep_univ_sum, bigSep_univ_sum]
  exact equiv_iff.mp ⟨Idealize.SL.BI.sep_assoc, Idealize.SL.BI.sep_assoc'⟩

/-! ## Chunks of an array -/

theorem rPts_chunks (b : Bool) (c : Dev nD) (q : PosShare TreeShare) (f : Tns F) :
    (rPts b Finset.univ c q f : sProp 𝕄) = bigSep Finset.univ fun i => rPts b (chSet i) c q f := by
  cases b
  · exact Ring.pointsTo_blocks (ℓ := (Memref.whole cc0_scratch1 : Memref sig .tc .vmem S16x256x64 .bf16).view.loc (c : Thread nD τ)) (B := Fin 4) chSet chSet_disjoint chSet_cover (q := q) f
  · exact Ring.pointsTo_blocks (ℓ := (Memref.whole cc0_scratch0 : Memref sig .tc .vmem S16x256x64 .bf16).view.loc (c : Thread nD τ)) (B := Fin 4) chSet chSet_disjoint chSet_cover (q := q) f
theorem sPts_chunks (b : Bool) (c : Dev nD) (q : PosShare TreeShare) (f : Tns F) :
    (sPts b Finset.univ c q f : sProp 𝕄) = bigSep Finset.univ fun i => sPts b (chSet i) c q f := by
  cases b
  · exact Ring.pointsTo_blocks (ℓ := (Memref.whole cc0_stg2_0 : Memref sig .tc .vmem S16x256x64 .bf16).view.loc (c : Thread nD τ)) (B := Fin 4) chSet chSet_disjoint chSet_cover (q := q) f
  · exact Ring.pointsTo_blocks (ℓ := (Memref.whole cc0_stg1_0 : Memref sig .tc .vmem S16x256x64 .bf16).view.loc (c : Thread nD τ)) (B := Fin 4) chSet chSet_disjoint chSet_cover (q := q) f

/-- Two halves of an array are the array. -/
theorem rPts_halves (b : Bool) (I : Finset S16x256x64.Idx) (c : Dev nD) (f : Tns F) :
    (rPts b I c fullShare f : sProp 𝕄) ⊣⊢ iprop(rPts b I c fullShare.left f ∗ rPts b I c fullShare.right f) := by
  cases b <;> (unfold rPts; exact pointsTo_share (PosShare.mem_left_op_right _))
theorem sPts_halves (b : Bool) (I : Finset S16x256x64.Idx) (c : Dev nD) (f : Tns F) :
    (sPts b I c fullShare f : sProp 𝕄) ⊣⊢ iprop(sPts b I c fullShare.left f ∗ sPts b I c fullShare.right f) := by
  cases b <;> (unfold sPts; exact pointsTo_share (PosShare.mem_left_op_right _))

/-! ## The barrier's payloads -/

/-- What the device's neighbours fill of its second buffer: (direction, which forward) is which chunk. -/
def bEquiv (c : Dev nD) : Fin 2 × Fin 2 ≃ Fin 4 :=
  Equiv.ofBijective (fun e => fwd (fpeer e.1 c) e.2)
    ((Fintype.bijective_iff_injective_and_card _).2 ⟨fun e e' h => by revert c e e'; decide, rfl⟩)

/-- A device's first buffer is room for the other z, -/
theorem giveA (c : Dev nD) :
    iprop((∃ f, rPts (kk c) Finset.univ c fullShare f) ∗ bigSep Finset.univ fun p => reached ER (cell c (.a p)) 0)
      ⊢ (barPay (peer 0 c) 0 : sProp 𝕄) := by
  have hone : ∀ (f : Tns F) (p : Fin 4), iprop(rPts (kk c) (chSet (ordEquiv c p)) c fullShare f ∗ reached ER (cell c (.a p)) 0)
      ⊢ (roomA (zp c) p : sProp 𝕄) := fun f p => by
    unfold roomA
    rw [zp_zp, kk_zp, ord_zp]
    iintro ⟨H, Hr⟩
    isplitl [H]
    · iexists f; iexact H
    · iexact Hr
  have hall : ∀ f : Tns F, iprop(rPts (kk c) Finset.univ c fullShare f ∗ bigSep Finset.univ fun p => reached ER (cell c (.a p)) 0)
      ⊢ (barPay (peer 0 c) 0 : sProp 𝕄) := fun f => by
    rw [rPts_chunks, bigSep_univ_equiv (ordEquiv c), ← bigSep_sep']
    exact bigSep_mono fun p _ => hone f p
  iintro ⟨⟨%f, H⟩, Hr⟩
  iapply (hall f)
  isplitl [H] <;> iassumption

/-- its second buffer room for the other two neighbours. -/
theorem giveB (c : Dev nD) :
    iprop((∃ f, rPts (!kk c) Finset.univ c fullShare f) ∗ bigSep Finset.univ fun i => reached ER (cell c (.b i)) 0)
      ⊢ iprop(barPay (peer 1 c) 1 ∗ barPay (peer 2 c) 2 : sProp 𝕄) := by
  have hone : ∀ (f : Tns F) (e : Fin 2 × Fin 2), iprop(rPts (!kk c) (chSet (bEquiv c e)) c fullShare f ∗ reached ER (cell c (.b (bEquiv c e))) 0)
      ⊢ (roomB (fpeer e.1 c) e.1 e.2 : sProp 𝕄) := fun f e => by
    unfold roomB
    rw [fpeer_fpeer, kk_fpeer]
    iintro ⟨H, Hr⟩
    isplitl [H]
    · iexists f; iexact H
    · iexact Hr
  have hsum : (bigSep Finset.univ fun e : Fin 2 × Fin 2 => roomB (fpeer e.1 c) e.1 e.2 : sProp 𝕄)
      = iprop(barPay (peer 1 c) 1 ∗ barPay (peer 2 c) 2) := by rw [bigSep_univ_prod, bigSep2]; rfl
  have hall : ∀ f : Tns F, iprop(rPts (!kk c) Finset.univ c fullShare f ∗ bigSep Finset.univ fun i => reached ER (cell c (.b i)) 0)
      ⊢ iprop(barPay (peer 1 c) 1 ∗ barPay (peer 2 c) 2 : sProp 𝕄) := fun f => by
    rw [← hsum, rPts_chunks, ← bigSep_sep', bigSep_univ_equiv (bEquiv c)]
    exact bigSep_mono fun e _ => hone f e
  iintro ⟨⟨%f, H⟩, Hr⟩
  iapply (hall f)
  isplitl [H] <;> iassumption

section Make

variable (ks vs : Dev nD → Tns F) (c : Dev nD)

/-- The tokens of the copies to the other z, but for those marks the room comes with; -/
def toksA (p : Fin 4) : sProp 𝕄 := iprop(dutyTok ER (cell c (.s p)) 0 0 ∗ reached ER (cell c (.s p)) 0 ∗ dutyTok ER (cell (zp c) (.a p)) 0 0)
/-- those of the forwards. -/
def toksF (p d : Fin 2) : sProp 𝕄 :=
  iprop(dutyTok ER (cell c (.f p d)) 0 0 ∗ reached ER (cell c (.f p d)) 0 ∗ dutyTok ER (cell (fpeer d c) (.b (fwd c p))) 0 0)

/-- Everything for the four copies to the other z; -/
theorem makeA :
    iprop(sPts (kk c) Finset.univ c fullShare.left (src ks vs c) ∗ barPay c 0 ∗ bigSep Finset.univ fun p => toksA c p)
      ⊢ (bigSep Finset.univ fun p => sendA ks vs c p : sProp 𝕄) := by
  have hone : ∀ p, iprop(sPts (kk c) (chSet (ordEquiv c p)) c fullShare.left (src ks vs c) ∗ roomA c p ∗ toksA c p)
      ⊢ (sendA ks vs c p : sProp 𝕄) := fun p => by
    unfold roomA toksA sendA toks
    iintro ⟨H, ⟨Hf, Hr⟩, ⟨Ht, Hs, Ht'⟩⟩
    isplitl [H]; · iexact H
    isplitl [Hf]; · iexact Hf
    isplitl [Ht]; · iexact Ht
    isplitl [Hs]; · iexact Hs
    isplitl [Ht'] <;> iassumption
  rw [sPts_chunks, bigSep_univ_equiv (ordEquiv c), show (barPay c 0 : sProp 𝕄) = bigSep Finset.univ fun p : Fin 4 => roomA c p from rfl,
    ← bigSep_sep', ← bigSep_sep']
  exact bigSep_mono fun p _ => hone p

/-- everything for the forwards but the chunks. -/
theorem makeF : iprop(barPay c 1 ∗ barPay c 2 ∗ bigSep Finset.univ fun e : Fin 2 × Fin 2 => toksF c e.1 e.2)
      ⊢ (bigSep Finset.univ fun e : Fin 2 × Fin 2 => roomF c e.1 e.2 : sProp 𝕄) := by
  have hone : ∀ p d : Fin 2, iprop(roomB c d p ∗ toksF c p d) ⊢ (roomF c p d : sProp 𝕄) := fun p d => by
    unfold roomB toksF roomF toks
    iintro ⟨⟨Hf, Hr⟩, ⟨Ht, Hs, Ht'⟩⟩
    isplitl [Hf]; · iexact Hf
    isplitl [Ht]; · iexact Ht
    isplitl [Hs]; · iexact Hs
    isplitl [Ht'] <;> iassumption
  rw [show (barPay c 1 : sProp 𝕄) = bigSep Finset.univ fun p : Fin 2 => roomB c 0 p from rfl,
    show (barPay c 2 : sProp 𝕄) = bigSep Finset.univ fun p : Fin 2 => roomB c 1 p from rfl, bigSep_univ_prod, bigSep_univ_prod]
  simp only [bigSep2]
  iintro ⟨H1, H2, Ht⟩
  icases H1 with ⟨A0, A1⟩
  icases H2 with ⟨B0, B1⟩
  icases Ht with ⟨⟨T00, T01⟩, ⟨T10, T11⟩⟩
  isplitl [A0 B0 T00 T01]
  · isplitl [A0 T00]
    · iapply (hone 0 0); isplitl [A0] <;> iassumption
    · iapply (hone 0 1); isplitl [B0] <;> iassumption
  · isplitl [A1 T10]
    · iapply (hone 1 0); isplitl [A1] <;> iassumption
    · iapply (hone 1 1); isplitl [B1] <;> iassumption

/-- The staged array is whole again; -/
theorem joinS : (bigSep Finset.univ fun p => pay ks vs c (.s p) : sProp 𝕄) ⊢ sPts (kk c) Finset.univ c fullShare.left (src ks vs c) := by
  rw [sPts_chunks, bigSep_univ_equiv (ordEquiv c) (fun i => sPts (kk c) (chSet i) c fullShare.left (src ks vs c))]
  exact Entails.of_eq (bigSep_congr fun p _ => pay_s ks vs c p)

/-- so is the first buffer, when the forwards are done; -/
theorem joinA : iprop((pay ks vs c (.f 0 0) ∗ pay ks vs c (.f 0 1)) ∗ (pay ks vs c (.f 1 0) ∗ pay ks vs c (.f 1 1)) ∗ pay ks vs c (.a 2) ∗ pay ks vs c (.a 3))
      ⊢ (rPts (kk c) Finset.univ c fullShare (gotA ks vs c) : sProp 𝕄) := by
  have hone : ∀ p : Fin 2, iprop(pay ks vs c (.f p 0) ∗ pay ks vs c (.f p 1))
      ⊢ (rPts (kk c) (chSet (fwd c p)) c fullShare (gotA ks vs c) : sProp 𝕄) := fun p => by
    rw [pay_f, pay_f]
    exact (rPts_halves (kk c) (chSet (fwd c p)) c (gotA ks vs c)).2
  have h0 : ordEquiv c 0 = fwd c 0 := rfl
  have h1 : ordEquiv c 1 = fwd c 1 := rfl
  have h2 : ordEquiv c 2 = ord c 2 := rfl
  have h3 : ordEquiv c 3 = ord c 3 := rfl
  rw [rPts_chunks, bigSep_univ_equiv (ordEquiv c), bigSep4, h0, h1, h2, h3, pay_a, pay_a]
  iintro ⟨H0, H1, H2⟩
  isplitl [H0]; · iapply (hone 0); iexact H0
  isplitl [H1]; · iapply (hone 1); iexact H1
  iexact H2

/-- so is the second. -/
theorem joinB : (bigSep Finset.univ fun i => pay ks vs c (.b i) : sProp 𝕄) ⊢ rPts (!kk c) Finset.univ c fullShare (gotB ks vs c) := by
  rw [rPts_chunks]
  exact Entails.of_eq (bigSep_congr fun i _ => pay_b ks vs c i)

end Make

end Cert.Kernel.Attn

end
-- ==== Proof.Body.lean ====
/-
  The kernel body run once on a device: the signals and the barrier wait, the four copies to the other z, the forwards,
  the waits, and the loads and the store around them.
-/
module

public import proofs.«01_k».proof.Proof.Chunks

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

local notation "𝕄" => MT nD τ sig Unit (Elt F) ℕ UU ℕ

/-! ## The words the program branches on and sends to -/

theorem zp_val : ∀ c : Dev nD, (4 * (c.val / 4) + 2 * ((c.val / 2) % 2) + 1) - (c.val % 2) = (zp c).val := by decide
theorem xp_val : ∀ c : Dev nD, (2 * ((c.val / 2) % 2) + (c.val % 2) + 4) - 4 * (c.val / 4) = (xp c).val := by decide
theorem yp_val : ∀ c : Dev nD, (4 * (c.val / 4) + (c.val % 2) + 2) - 2 * ((c.val / 2) % 2) = (yp c).val := by decide

/-- The branches of the sends, of the first forwards, of the second: which chunk order, which array. -/
theorem cond1_iff : ∀ c : Dev nD, k0_cond1 c = 1#1 ↔ kk c = true ∧ flo c = true := by decide +kernel
theorem cond2_iff : ∀ c : Dev nD, k0_cond2 c = 1#1 ↔ kk c = true ∧ flo c = false := by decide +kernel
theorem cond3_iff : ∀ c : Dev nD, k0_cond3 c = 1#1 ↔ kk c = false ∧ flo c = true := by decide +kernel
theorem cond4_iff : ∀ c : Dev nD, k0_cond4 c = 1#1 ↔ kk c = false ∧ flo c = false := by decide +kernel
theorem cond5_iff : ∀ c : Dev nD, k0_cond5 c = 1#1 ↔ kk c = true ∧ flo c = true := by decide +kernel
theorem cond6_iff : ∀ c : Dev nD, k0_cond6 c = 1#1 ↔ kk c = true ∧ flo c = false := by decide +kernel
theorem cond7_iff : ∀ c : Dev nD, k0_cond7 c = 1#1 ↔ kk c = false ∧ flo c = true := by decide +kernel
theorem cond8_iff : ∀ c : Dev nD, k0_cond8 c = 1#1 ↔ kk c = false ∧ flo c = false := by decide +kernel
theorem cond9_iff : ∀ c : Dev nD, k0_cond9 c = 1#1 ↔ kk c = true ∧ flo c = true := by decide +kernel
theorem cond10_iff : ∀ c : Dev nD, k0_cond10 c = 1#1 ↔ kk c = true ∧ flo c = false := by decide +kernel
theorem cond11_iff : ∀ c : Dev nD, k0_cond11 c = 1#1 ↔ kk c = false ∧ flo c = true := by decide +kernel
theorem cond12_iff : ∀ c : Dev nD, k0_cond12 c = 1#1 ↔ kk c = false ∧ flo c = false := by decide +kernel

/-- The chunk orders, written out. -/
def ordLo : Fin 4 → Fin 4 | 0 => 0 | 1 => 1 | 2 => 2 | 3 => 3
def ordHi : Fin 4 → Fin 4 | 0 => 2 | 1 => 3 | 2 => 0 | 3 => 1
theorem ord_lo : ∀ c : Dev nD, flo c = true → ∀ p, ord c p = ordLo p := by decide
theorem ord_hi : ∀ c : Dev nD, flo c = false → ∀ p, ord c p = ordHi p := by decide

section Parts

variable (ks vs : Dev nD → Tns F) (K : GSem nD τ sig → ℕ) {α : Type} (c : Dev nD)

/-- A copy as the program writes it. -/
abbrev copyOp (sr dst : Memref sig .tc .vmem S4x256x64 .bf16) (c' : Dev nD) (sS sR : DmaSem sig) (hsc : dst.view.ref.isScScratch = false)
    (hsrc : sr.view.WordExact) (hdst : dst.view.WordExact)
    (hsem : DmaTarget.Typed (p := .tc) .vmem (.dma sR) (.remote (c' : Thread nD τ) dst (.dma sS) hsc))
    (cont : PUnit → Prog (TpuEff nD τ sig (Elt F) Λ₀ .tc) α) : Prog (TpuEff nD τ sig (Elt F) Λ₀ .tc) α :=
  .op (.enqueueDma sr (.remote (c' : Thread nD τ) dst (.dma sS) hsc) (.dma sR) hsrc hdst hsem) cont

/-- The four copies to the other z. -/
theorem wp_sendsA {b : Bool} {o : Fin 4 → Fin 4} (hb : kk c = b) (ho : ∀ p, ord c p = o p) {c₀ c₁ c₂ c₃ : Dev nD}
    (e₀ : c₀ = zp c) (e₁ : c₁ = zp c) (e₂ : c₂ = zp c) (e₃ : c₃ = zp c)
    {hsc₀ hsrc₀ hdst₀ hsem₀ hsc₁ hsrc₁ hdst₁ hsem₁ hsc₂ hsrc₂ hdst₂ hsem₂ hsc₃ hsrc₃ hdst₃ hsem₃}
    {cont : PUnit → Prog (TpuEff nD τ sig (Elt F) Λ₀ .tc) α} {Q : α → sProp 𝕄} :
    iprop(recs ks vs K ∗ (bigSep Finset.univ fun p => sendA ks vs c p) ∗ owing c 8)
      ⊢ iprop((((bigSep Finset.univ fun p : Fin 4 => cred (tallyAt (cell c (.s p)) () N)) ∗ owing c 4)
            -∗ wp frame (wpE (defs₀ (F := F)) 𝒱₀ c none) Set.univ (cont ⟨⟩) Q)
          -∗ wp frame (wpE (defs₀ (F := F)) 𝒱₀ c none) Set.univ
            (copyOp (cut (stagM b) (o 0)) (cut (recvM b) (o 0)) c₀ (dsem (.s 0)) (dsem (.a 0)) hsc₀ hsrc₀ hdst₀ hsem₀ fun _ =>
             copyOp (cut (stagM b) (o 1)) (cut (recvM b) (o 1)) c₁ (dsem (.s 1)) (dsem (.a 1)) hsc₁ hsrc₁ hdst₁ hsem₁ fun _ =>
             copyOp (cut (stagM b) (o 2)) (cut (recvM b) (o 2)) c₂ (dsem (.s 2)) (dsem (.a 2)) hsc₂ hsrc₂ hdst₂ hsem₂ fun _ =>
             copyOp (cut (stagM b) (o 3)) (cut (recvM b) (o 3)) c₃ (dsem (.s 3)) (dsem (.a 3)) hsc₃ hsrc₃ hdst₃ hsem₃ cont) Q) := by
  subst e₀ e₁ e₂ e₃
  rw [bigSep4, bigSep4]
  iintro ⟨#HI, ⟨S0, S1, S2, S3⟩, HO⟩ Hk
  iapply (wp_sendA ks vs K c (p := 0) (n := 7) hb (ho 0) rfl rfl rfl rfl rfl rfl) $$ [S0 HO]
  · isplitr; · iexact HI
    isplitl [S0] <;> iassumption
  iintro ⟨C0, HO⟩
  iapply (wp_sendA ks vs K c (p := 1) (n := 6) hb (ho 1) rfl rfl rfl rfl rfl rfl) $$ [S1 HO]
  · isplitr; · iexact HI
    isplitl [S1] <;> iassumption
  iintro ⟨C1, HO⟩
  iapply (wp_sendA ks vs K c (p := 2) (n := 5) hb (ho 2) rfl rfl rfl rfl rfl rfl) $$ [S2 HO]
  · isplitr; · iexact HI
    isplitl [S2] <;> iassumption
  iintro ⟨C2, HO⟩
  iapply (wp_sendA ks vs K c (p := 3) (n := 4) hb (ho 3) rfl rfl rfl rfl rfl rfl) $$ [S3 HO]
  · isplitr; · iexact HI
    isplitl [S3] <;> iassumption
  iintro ⟨C3, HO⟩
  iapply Hk
  isplitr [HO]
  · isplitl [C0]; · iexact C0
    isplitl [C1]; · iexact C1
    isplitl [C2] <;> iassumption
  · iexact HO

/-- A device's two forwards of one chunk. -/
theorem wp_sendsF {b : Bool} {p : Fin 2} {i : Fin 4} {n : ℕ} (hb : kk c = b) (hi : fwd c p = i) {c₀ c₁ : Dev nD} (e₀ : c₀ = xp c) (e₁ : c₁ = yp c)
    (hdue₀ : due c (n + 1) = (cell (fpeer 0 c) (.b (fwd c p)), N)) (hdue₁ : due c n = (cell (fpeer 1 c) (.b (fwd c p)), N))
    {hsc₀ hsrc₀ hdst₀ hsem₀ hsc₁ hsrc₁ hdst₁ hsem₁}
    {cont : PUnit → Prog (TpuEff nD τ sig (Elt F) Λ₀ .tc) α} {Q : α → sProp 𝕄} :
    iprop(recs ks vs K ∗ pay ks vs c (.a (two p)) ∗ (roomF c p 0 ∗ roomF c p 1) ∗ owing c (n + 2))
      ⊢ iprop((((cred (tallyAt (cell c (.f p 0)) () N) ∗ cred (tallyAt (cell c (.f p 1)) () N)) ∗ owing c n)
            -∗ wp frame (wpE (defs₀ (F := F)) 𝒱₀ c none) Set.univ (cont ⟨⟩) Q)
          -∗ wp frame (wpE (defs₀ (F := F)) 𝒱₀ c none) Set.univ
            (copyOp (cut (recvM b) i) (cut (recvM b) i) c₀ (dsem (.f p 0)) (dsem (.b i)) hsc₀ hsrc₀ hdst₀ hsem₀ fun _ =>
             copyOp (cut (recvM b) i) (cut (recvM b) i) c₁ (dsem (.f p 1)) (dsem (.b i)) hsc₁ hsrc₁ hdst₁ hsem₁ cont) Q) := by
  subst e₀ e₁
  have hsplit : pay ks vs c (.a (two p)) ⊢ iprop(halfF ks vs c p 0 ∗ halfF ks vs c p 1) := by
    rw [pay_a]; exact (rPts_halves _ _ _ _).1
  iintro ⟨#HI, HP, ⟨R0, R1⟩, HO⟩ Hk
  ihave HP := hsplit $$ HP
  icases HP with ⟨P0, P1⟩
  iapply (wp_sendF ks vs K c (p := p) (d := 0) (n := n + 1) hb hi rfl rfl rfl rfl rfl hdue₀) $$ [P0 R0 HO]
  · isplitr; · iexact HI
    isplitl [P0]; · iexact P0
    isplitl [R0] <;> iassumption
  iintro ⟨C0, HO⟩
  iapply (wp_sendF ks vs K c (p := p) (d := 1) (n := n) hb hi rfl rfl rfl rfl rfl hdue₁) $$ [P1 R1 HO]
  · isplitr; · iexact HI
    isplitl [P1]; · iexact P1
    isplitl [R1] <;> iassumption
  iintro ⟨C1, HO⟩
  iapply Hk
  isplitr [HO]
  · isplitl [C0] <;> iassumption
  · iexact HO

/-- The program's parts with the kernel's own arrays. -/
abbrev part5 := k0_part5 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part6 := k0_part6 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part7 := k0_part7 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part8 := k0_part8 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part9 := k0_part9 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part10 := k0_part10 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part11 := k0_part11 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part12 := k0_part12 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3
abbrev part13 := k0_part13 (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _)
  (Memref.whole cc0_scratch0) (Memref.isWhole_whole _) (Memref.whole cc0_scratch1) (Memref.isWhole_whole _) cc0_scratch2 cc0_scratch3

/-- The last signal, the barrier wait, and the copies to the other z, whichever of the four branches the device takes. -/
theorem wp_part6 (v2 v5 v9 : BitVec 32) (v12 v13 : BitVec 1) {v14 : Sems sig S_} (h14 : v14.sem = barS) (v30 v31 : BitVec 32) {Q : PUnit → sProp 𝕄} :
    iprop(recs ks vs K ∗ levAts L lv ∗ (barPay (peer 2 c) 2 ∗ ring c 2) ∗ (cred (tallyAt (barCell c) () 3) ∗ atPos ER (barCell c) 0 ∅ 0)
        ∗ (sPts (kk c) Finset.univ c fullShare.left (src ks vs c) ∗ bigSep Finset.univ fun p => toksA c p) ∗ owing c 9)
      ⊢ iprop(((semVal (barCell c) 0 ∗ (barPay c 1 ∗ barPay c 2) ∗ (bigSep Finset.univ fun p : Fin 4 => cred (tallyAt (cell c (.s p)) () N)) ∗ owing c 4)
            -∗ Q ⟨⟩)
          -∗ wp frame (wpE (defs₀ (F := F)) 𝒱₀ c none) Set.univ (part6 c v2 v5 v9 v12 v13 v14 v30 v31) Q) := by
  have hA := makeA ks vs c
  unfold part6
  rw [k0_part6_eq_skeleton]
  unfold k0_part6_skel
  rw [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, h14]
  iintro ⟨#HI, #Hlev, ⟨Hp, Hr⟩, Hb, ⟨HS, Ht⟩, HO⟩ Hk
  iapply (wp_ring ks vs K c (j := 2) (n := 8) (Fin.ext ((k0_dev3_eq c).trans (yp_val c))) rfl rfl rfl) $$ [Hp Hr HO]
  · isplitr; · iexact HI
    isplitl [Hp]; · iexact Hp
    isplitl [Hr] <;> iassumption
  iintro HO
  iapply (wp_waitBar ks vs K c rfl rfl) $$ [Hb HO]
  · isplitr; · iexact HI
    isplitr; · iexact Hlev
    isplitl [Hb] <;> iassumption
  rw [bigSep3]
  iintro ⟨Hv, ⟨P0, P1, P2⟩, HO⟩
  ihave HA := hA $$ [HS Ht P0]
  · isplitl [HS]; · iexact HS
    isplitl [P0] <;> iassumption
  have hz : ∀ {n : ℕ} (h : n < nD), n = (4 * (c.val / 4) + 2 * ((c.val / 2) % 2) + 1) - (c.val % 2) → (⟨n, h⟩ : Dev nD) = zp c :=
    fun h e => Fin.ext (e.trans (zp_val c))
  rcases hk : kk c <;> rcases hf : flo c <;>
    simp only [cond1_iff, cond2_iff, cond3_iff, cond4_iff, hk, hf, and_true, and_false, reduceCtorEq, dite_true, dite_false, Prog.bind_op, Prog.bind_ret]
  on_goal 1 => iapply (wp_sendsA ks vs K c (b := false) (o := ordHi) hk (ord_hi c hf) (hz _ (k0_dev16_eq c)) (hz _ (k0_dev17_eq c)) (hz _ (k0_dev18_eq c)) (hz _ (k0_dev19_eq c))) $$ [HA HO]
  on_goal 3 => iapply (wp_sendsA ks vs K c (b := false) (o := ordLo) hk (ord_lo c hf) (hz _ (k0_dev12_eq c)) (hz _ (k0_dev13_eq c)) (hz _ (k0_dev14_eq c)) (hz _ (k0_dev15_eq c))) $$ [HA HO]
  on_goal 5 => iapply (wp_sendsA ks vs K c (b := true) (o := ordHi) hk (ord_hi c hf) (hz _ (k0_dev8_eq c)) (hz _ (k0_dev9_eq c)) (hz _ (k0_dev10_eq c)) (hz _ (k0_dev11_eq c))) $$ [HA HO]
  on_goal 7 => iapply (wp_sendsA ks vs K c (b := true) (o := ordLo) hk (ord_lo c hf) (hz _ (k0_dev4_eq c)) (hz _ (k0_dev5_eq c)) (hz _ (k0_dev6_eq c)) (hz _ (k0_dev7_eq c))) $$ [HA HO]
  on_goal 1 => isplitr; · iexact HI
  on_goal 1 => isplitl [HA] <;> iassumption
  on_goal 2 => isplitr; · iexact HI
  on_goal 2 => isplitl [HA] <;> iassumption
  on_goal 3 => isplitr; · iexact HI
  on_goal 3 => isplitl [HA] <;> iassumption
  on_goal 4 => isplitr; · iexact HI
  on_goal 4 => isplitl [HA] <;> iassumption
  all_goals
    iintro ⟨HC, HO⟩
    rw [wp_ret]; imodintro
    iapply Hk
    isplitl [Hv]; · iexact Hv
    isplitl [P1 P2]; · isplitl [P1] <;> iassumption
    isplitl [HC] <;> iassumption

/-- The staged queries, as the windows hand them. -/
def qPts (c : Dev nD) (q : PosShare TreeShare) (f : Tns F) : sProp 𝕄 :=
  (Memref.whole cc0_stg0_0 : Memref sig .tc .vmem S16x256x64 .bf16).view.loc (c : Thread nD τ) ↦{q} f

theorem zero3 : (![0, 0, 0] : Fin 3 → ℕ) = fun _ => 0 := by funext a; fin_cases a <;> rfl

/-- A buffer in the core's own memory, by its number. -/
abbrev vref (i : Fin (sig.nNear .tc .vmem)) (hn : sig.names .tc .vmem i = true) : Ref sig .tc := ⟨.vmem, i, hn⟩

/-- A load, a store, of a whole buffer. -/
theorem wp_loadWhole {i hn} {off : Fin (vref i hn).ty.shape.rank → Nat} (h0 : off = fun _ => 0) {inb} {q : PosShare TreeShare} {f : (vref i hn).ty.Contents (Elt F)}
    {hl} {k : ((vref i hn).ty.shape.Idx → Elt F (vref i hn).ty.elt) → Prog (TpuEff nD τ sig (Elt F) Λ₀ .tc) α} {Q : α → sProp 𝕄} :
    (((Memref.whole (vref i hn) : Memref sig .tc .vmem _ _).view.loc (c : Thread nD τ)) ↦{q} f) ⊢ iprop(((((Memref.whole (vref i hn) : Memref sig .tc .vmem _ _).view.loc (c : Thread nD τ)) ↦{q} f) -∗ wp frame (wpE (defs₀ (F := F)) 𝒱₀ c none) Set.univ (k f) Q)
      -∗ wp frame (wpE (defs₀ (F := F)) 𝒱₀ c none) Set.univ (.op (.load (Memref.whole (vref i hn) : Memref sig .tc .vmem _ _) (Rect.unit off (vref i hn).ty.shape.size inb).toLoadRect hl) k) Q) := by
  have h := wp_load (defs := defs₀ (F := F)) (U := UU) (Name := ℕ) (Lvl := ℕ) (Ix := Unit) 𝒱₀ (c : Thread nD τ) none (Γ := .empty) Set.univ (m := (Memref.whole (vref i hn) : Memref sig .tc .vmem _ _))
    (r := (Rect.unit off (vref i hn).ty.shape.size inb).toLoadRect) (hl := hl) (k := k) (q := q) (f := f) (Q := Q) (Finset.subset_univ _)
  rw [Memref.readAt_unit_zero (Elt F) (vref i hn) h0 inb f] at h
  exact h
theorem wp_storeWhole {i hn} {off : Fin (vref i hn).ty.shape.rank → Nat} (h0 : off = fun _ => 0) {inb} {f w : (vref i hn).ty.Contents (Elt F)}
    {hx hm} {k : PUnit → Prog (TpuEff nD τ sig (Elt F) Λ₀ .tc) α} {Q : α → sProp 𝕄} :
    (((Memref.whole (vref i hn) : Memref sig .tc .vmem _ _).view.loc (c : Thread nD τ)) ↦{fullShare} f) ⊢ iprop(((((Memref.whole (vref i hn) : Memref sig .tc .vmem _ _).view.loc (c : Thread nD τ)) ↦{fullShare} w) -∗ wp frame (wpE (defs₀ (F := F)) 𝒱₀ c none) Set.univ (k ⟨⟩) Q)
      -∗ wp frame (wpE (defs₀ (F := F)) 𝒱₀ c none) Set.univ (.op (.store (Memref.whole (vref i hn) : Memref sig .tc .vmem _ _) (Rect.unit off (vref i hn).ty.shape.size inb) w Finset.univ hx hm) k) Q) := by
  have h := wp_store (defs := defs₀ (F := F)) (U := UU) (Name := ℕ) (Lvl := ℕ) (Ix := Unit) 𝒱₀ (c : Thread nD τ) none (Γ := .empty) Set.univ (m := (Memref.whole (vref i hn) : Memref sig .tc .vmem _ _))
    (r := Rect.unit off (vref i hn).ty.shape.size inb) (w := w) (Mk := Finset.univ) (hx := hx) (hm := hm) (k := k) (f := f) (Q := Q) (Finset.subset_univ _)
  rw [Memref.write_access_unit_zero_univ (Elt F) (vref i hn) h0 inb f w] at h
  exact h

/-- The staged output. -/
def oPts (c : Dev nD) (f : S16x256x64.Idx → Elt F .f32) : sProp 𝕄 :=
  (Memref.whole cc0_stg3_0 : Memref sig .tc .vmem S16x256x64 .f32).view.loc (c : Thread nD τ) ↦{fullShare} f

theorem wp_loadQ {q : PosShare TreeShare} {f : Tns F} {hl} {k : Vec F S16x256x64 .bf16 → Prog (TpuEff nD τ sig (Elt F) Λ₀ .tc) α} {Q : α → sProp 𝕄} :
    qPts c q f ⊢ iprop((qPts c q f -∗ wp frame (wpE (defs₀ (F := F)) 𝒱₀ c none) Set.univ (k f) Q)
      -∗ wp frame (wpE (defs₀ (F := F)) 𝒱₀ c none) Set.univ (.op (.load (Memref.whole cc0_stg0_0 : Memref sig .tc .vmem S16x256x64 .bf16) (Rect.unit (s := S16x256x64) ![0, 0, 0] S16x256x64.size inb_S16x256x64_S16x256x64_0_0_0).toLoadRect hl) k) Q) :=
  wp_loadWhole c (i := cc0_stg0_0.idx) (hn := cc0_stg0_0.names) zero3
theorem wp_loadS {b : Bool} {q : PosShare TreeShare} {f : Tns F} {hl} {k : Vec F S16x256x64 .bf16 → Prog (TpuEff nD τ sig (Elt F) Λ₀ .tc) α} {Q : α → sProp 𝕄} :
    sPts b Finset.univ c q f ⊢ iprop((sPts b Finset.univ c q f -∗ wp frame (wpE (defs₀ (F := F)) 𝒱₀ c none) Set.univ (k f) Q)
      -∗ wp frame (wpE (defs₀ (F := F)) 𝒱₀ c none) Set.univ (.op (.load (stagM b) (Rect.unit (s := S16x256x64) ![0, 0, 0] S16x256x64.size inb_S16x256x64_S16x256x64_0_0_0).toLoadRect hl) k) Q) := by
  cases b
  exacts [wp_loadWhole c (i := cc0_stg2_0.idx) (hn := cc0_stg2_0.names) zero3, wp_loadWhole c (i := cc0_stg1_0.idx) (hn := cc0_stg1_0.names) zero3]
theorem wp_loadR {b : Bool} {q : PosShare TreeShare} {f : Tns F} {hl} {k : Vec F S16x256x64 .bf16 → Prog (TpuEff nD τ sig (Elt F) Λ₀ .tc) α} {Q : α → sProp 𝕄} :
    rPts b Finset.univ c q f ⊢ iprop((rPts b Finset.univ c q f -∗ wp frame (wpE (defs₀ (F := F)) 𝒱₀ c none) Set.univ (k f) Q)
      -∗ wp frame (wpE (defs₀ (F := F)) 𝒱₀ c none) Set.univ (.op (.load (recvM b) (Rect.unit (s := S16x256x64) ![0, 0, 0] S16x256x64.size inb_S16x256x64_S16x256x64_0_0_0).toLoadRect hl) k) Q) := by
  cases b
  exacts [wp_loadWhole c (i := cc0_scratch1.idx) (hn := cc0_scratch1.names) zero3, wp_loadWhole c (i := cc0_scratch0.idx) (hn := cc0_scratch0.names) zero3]
theorem wp_loadO {f : S16x256x64.Idx → Elt F .f32} {hl} {k : Vec F S16x256x64 .f32 → Prog (TpuEff nD τ sig (Elt F) Λ₀ .tc) α} {Q : α → sProp 𝕄} :
    oPts c f ⊢ iprop((oPts c f -∗ wp frame (wpE (defs₀ (F := F)) 𝒱₀ c none) Set.univ (k f) Q)
      -∗ wp frame (wpE (defs₀ (F := F)) 𝒱₀ c none) Set.univ (.op (.load (Memref.whole cc0_stg3_0 : Memref sig .tc .vmem S16x256x64 .f32) (Rect.unit (s := S16x256x64) ![0, 0, 0] S16x256x64.size inb_S16x256x64_S16x256x64_0_0_0).toLoadRect hl) k) Q) :=
  wp_loadWhole c (i := cc0_stg3_0.idx) (hn := cc0_stg3_0.names) zero3
theorem wp_storeO {f w : S16x256x64.Idx → Elt F .f32} {hx hm} {k : PUnit → Prog (TpuEff nD τ sig (Elt F) Λ₀ .tc) α} {Q : α → sProp 𝕄} :
    oPts c f ⊢ iprop((oPts c w -∗ wp frame (wpE (defs₀ (F := F)) 𝒱₀ c none) Set.univ (k ⟨⟩) Q)
      -∗ wp frame (wpE (defs₀ (F := F)) 𝒱₀ c none) Set.univ (.op (.store (Memref.whole cc0_stg3_0 : Memref sig .tc .vmem S16x256x64 .f32) (Rect.unit (s := S16x256x64) ![0, 0, 0] S16x256x64.size inb_S16x256x64_S16x256x64_0_0_0) w Finset.univ hx hm) k) Q) :=
  wp_storeWhole c (i := cc0_stg3_0.idx) (hn := cc0_stg3_0.names) zero3

/-- The loads of the device's own arrays, and the first chunk from the other z. -/
theorem wp_part7 (v2 v5 v9 : BitVec 32) (v12 : BitVec 1) {fq : Tns F} {Q : (Σ' (_ : FVec F S16x256x64 .bf16) (_ : FVec F S16x256 .f32) (_ : FVec F S16x256x64 .f32) (_ : BitVec 1), BitVec 1) → sProp 𝕄} :
    iprop(recs ks vs K ∗ levAts L lv ∗ (qPts c fullShare fq ∗ sPts true Finset.univ c fullShare.right (ks c) ∗ sPts false Finset.univ c fullShare.right (vs c))
        ∗ (ready c (.s 0) ∗ ready c (.a 0)) ∗ owing c 4)
      ⊢ iprop((∀ w : BitVec 1, ((qPts c fullShare fq ∗ sPts true Finset.univ c fullShare.right (ks c) ∗ sPts false Finset.univ c fullShare.right (vs c))
            ∗ (done ks vs c (.s 0) ∗ done ks vs c (.a 0)) ∗ owing c 4)
            -∗ Q ⟨k0_pay2 fq, k0_pay4 fq (ks c), k0_pay5 fq (ks c) (vs c), w, 1#1⟩)
          -∗ wp frame (wpE (defs₀ (F := F)) 𝒱₀ c none) Set.univ (part7 v2 v5 v9 v12) Q) := by
  unfold part7
  rw [k0_part7_eq_skeleton]
  unfold k0_part7_skel
  simp only [Prog.lift, Prog.bind_op, Prog.bind_ret, Prog.pure_eq_ret]
  iintro ⟨#HI, #Hlev, ⟨Hq, H1, H2⟩, ⟨Rs, Ra⟩, HO⟩ Hk
  iapply (wp_loadQ c) $$ Hq
  iintro Hq
  iapply (wp_loadS c (b := true)) $$ H1
  iintro H1
  iapply (wp_loadS c (b := false)) $$ H2
  iintro H2
  iapply (wp_waitCell ks vs K c (k := .s 0) (n := 4) rfl rfl (Or.inl (by decide))) $$ [Rs HO]
  · isplitr; · iexact HI
    isplitr; · iexact Hlev
    isplitl [Rs] <;> iassumption
  iintro ⟨Ds, HO⟩
  iapply (wp_waitCell ks vs K c (k := .a 0) (n := 4) rfl rfl (Or.inl (by decide))) $$ [Ra HO]
  · isplitr; · iexact HI
    isplitr; · iexact Hlev
    isplitl [Ra] <;> iassumption
  iintro ⟨Da, HO⟩
  rw [wp_ret]; imodintro
  iapply Hk
  isplitl [Hq H1 H2]
  · isplitl [Hq]; · iexact Hq
    isplitl [H1] <;> iassumption
  isplitl [Ds Da]
  · isplitl [Ds] <;> iassumption
  iexact HO

/-- The forwards of one chunk, still to do, done. -/
def fwdTodo (n : ℕ) (p : Fin 2) : sProp 𝕄 := iprop(pay ks vs c (.a (two p)) ∗ (roomF c p 0 ∗ roomF c p 1) ∗ owing c (n + 2))
def fwdDone (n : ℕ) (p : Fin 2) : sProp 𝕄 :=
  iprop((cred (tallyAt (cell c (.f p 0)) () N) ∗ cred (tallyAt (cell c (.f p 1)) () N)) ∗ owing c n)

/-- The first chunk's forwards. -/
theorem wp_part8 (v2 v5 v8 v10 v11 : BitVec 32) (v12 v13 v86 v72 : BitVec 1) {Q : PUnit → sProp 𝕄} :
    iprop(recs ks vs K ∗ fwdTodo ks vs c 2 0)
      ⊢ iprop((fwdDone c 2 0 -∗ Q ⟨⟩) -∗ wp frame (wpE (defs₀ (F := F)) 𝒱₀ c none) Set.univ (part8 c v2 v5 v8 v10 v11 v12 v13 v86 v72) Q) := by
  unfold part8 fwdTodo fwdDone
  rw [k0_part8_eq_skeleton]
  unfold k0_part8_skel
  simp only [Prog.lift, Prog.bind_op, Prog.bind_ret, Prog.pure_eq_ret]
  iintro ⟨#HI, HP, HR, HO⟩ Hk
  have hx : ∀ {n : ℕ} (h : n < nD), n = (2 * ((c.val / 2) % 2) + (c.val % 2) + 4) - 4 * (c.val / 4) → (⟨n, h⟩ : Dev nD) = xp c :=
    fun h e => Fin.ext (e.trans (xp_val c))
  have hy : ∀ {n : ℕ} (h : n < nD), n = (4 * (c.val / 4) + (c.val % 2) + 2) - 2 * ((c.val / 2) % 2) → (⟨n, h⟩ : Dev nD) = yp c :=
    fun h e => Fin.ext (e.trans (yp_val c))
  rcases hk : kk c <;> rcases hf : flo c <;>
    simp only [cond5_iff, cond6_iff, cond7_iff, cond8_iff, hk, hf, and_true, and_false, reduceCtorEq, dite_true, dite_false, Prog.bind_op, Prog.bind_ret]
  on_goal 1 => iapply (wp_sendsF ks vs K c (p := 0) (n := 2) hk (ord_hi c hf 0) (hx _ (k0_dev26_eq c)) (hy _ (k0_dev27_eq c)) rfl rfl) $$ [HP HR HO]
  on_goal 3 => iapply (wp_sendsF ks vs K c (p := 0) (n := 2) hk (ord_lo c hf 0) (hx _ (k0_dev24_eq c)) (hy _ (k0_dev25_eq c)) rfl rfl) $$ [HP HR HO]
  on_goal 5 => iapply (wp_sendsF ks vs K c (p := 0) (n := 2) hk (ord_hi c hf 0) (hx _ (k0_dev22_eq c)) (hy _ (k0_dev23_eq c)) rfl rfl) $$ [HP HR HO]
  on_goal 7 => iapply (wp_sendsF ks vs K c (p := 0) (n := 2) hk (ord_lo c hf 0) (hx _ (k0_dev20_eq c)) (hy _ (k0_dev21_eq c)) rfl rfl) $$ [HP HR HO]
  on_goal 1 => isplitr; · iexact HI
  on_goal 1 => isplitl [HP]; · iexact HP
  on_goal 1 => isplitl [HR] <;> iassumption
  on_goal 2 => isplitr; · iexact HI
  on_goal 2 => isplitl [HP]; · iexact HP
  on_goal 2 => isplitl [HR] <;> iassumption
  on_goal 3 => isplitr; · iexact HI
  on_goal 3 => isplitl [HP]; · iexact HP
  on_goal 3 => isplitl [HR] <;> iassumption
  on_goal 4 => isplitr; · iexact HI
  on_goal 4 => isplitl [HP]; · iexact HP
  on_goal 4 => isplitl [HR] <;> iassumption
  all_goals
    iintro HC
    rw [wp_ret]; imodintro
    iapply Hk
    iexact HC

/-- A wait's own lines: the counter's resources and the schedule go in, the counter's end and its payload come out. -/
theorem done_open (k : Slot) : done ks vs c k ⊢ iprop(semVal (cell c k) 0 ∗ pay ks vs c k) := .rfl

/-- The wait on a chunk's counter, its destination the chunk `i` of one of the two received arrays. -/
theorem wp_waitCut (b : Bool) (i : Fin 4) (k : Slot) (n : ℕ) {q : DmaSem sig} {hsrc hdst}
    {cont : PUnit → Prog (TpuEff nD τ sig (Elt F) Λ₀ .tc) α} {Q : α → sProp 𝕄}
    (hq : q = dsem k) (h : lvOf (.dma (dsem k)) < (if n ≤ 4 then 3 else if n ≤ 8 then 2 else 1) ∨ n = 0) :
    iprop(recs ks vs K ∗ levAts L lv ∗ ready c k ∗ owing c n)
      ⊢ iprop(((done ks vs c k ∗ owing c n) -∗ wp frame (wpE (defs₀ (F := F)) 𝒱₀ c none) Set.univ (cont ⟨⟩) Q)
          -∗ wp frame (wpE (defs₀ (F := F)) 𝒱₀ c none) Set.univ (.op (.waitDma2 q (cut (recvM b) i) (cut (recvM b) i) hsrc hdst) cont) Q) :=
  wp_waitCell ks vs K c hq (credit_cut b i) h

/-- A device number with x's, with y's closed form. -/
theorem is_xp {n : ℕ} (h : n < nD) (e : n = (2 * ((c.val / 2) % 2) + (c.val % 2) + 4) - 4 * (c.val / 4)) : (⟨n, h⟩ : Dev nD) = xp c := Fin.ext (e.trans (xp_val c))
theorem is_yp {n : ℕ} (h : n < nD) (e : n = (4 * (c.val / 4) + (c.val % 2) + 2) - 2 * ((c.val / 2) % 2)) : (⟨n, h⟩ : Dev nD) = yp c := Fin.ext (e.trans (yp_val c))

/-- Between the two places of the second chunk's forwards: a K device has made them, a V device has them before it. -/
def mid : sProp 𝕄 := if kk c = true then fwdDone c 0 1 else fwdTodo ks vs c 0 1

/-- The second chunk from the other z, and its forwards by a K device. -/
theorem wp_part9 (v2 v5 v8 v9 v10 v11 : BitVec 32) (v12 v13 : BitVec 1) {Q : (Σ' (_ : BitVec 1), BitVec 1) → sProp 𝕄} :
    iprop(recs ks vs K ∗ levAts L lv ∗ (ready c (.s 1) ∗ ready c (.a 1)) ∗ (roomF c 1 0 ∗ roomF c 1 1) ∗ owing c 2)
      ⊢ iprop((∀ r, (done ks vs c (.s 1) ∗ semVal (cell c (.a 1)) 0 ∗ mid ks vs c) -∗ Q r)
          -∗ wp frame (wpE (defs₀ (F := F)) 𝒱₀ c none) Set.univ (part9 c v2 v5 v8 v9 v10 v11 v12 v13) Q) := by
  unfold part9 mid fwdDone fwdTodo
  rw [k0_part9_eq_skeleton]
  unfold k0_part9_skel
  simp only [Prog.lift, Prog.bind_op, Prog.bind_ret, Prog.pure_eq_ret]
  iintro ⟨#HI, #Hlev, ⟨Rs, Ra⟩, HR, HO⟩ Hk
  iapply (wp_waitCut ks vs K c true 1 (.s 1) 2 rfl (Or.inl (by decide))) $$ [Rs HO]
  · isplitr; · iexact HI
    isplitr; · iexact Hlev
    isplitl [Rs] <;> iassumption
  iintro ⟨Ds, HO⟩
  iapply (wp_waitCut ks vs K c true 1 (.a 1) 2 rfl (Or.inl (by decide))) $$ [Ra HO]
  · isplitr; · iexact HI
    isplitr; · iexact Hlev
    isplitl [Ra] <;> iassumption
  iintro ⟨Da, HO⟩
  ihave ⟨Va, HP⟩ := (done_open ks vs c (.a 1)) $$ Da
  rcases hk : kk c <;> rcases hf : flo c <;>
    simp only [cond9_iff, cond10_iff, hk, hf, and_true, and_false, reduceCtorEq, dite_true, dite_false, if_true, if_false, Prog.bind_op, Prog.bind_ret]
  on_goal 3 => iapply (wp_sendsF ks vs K c (p := 1) (n := 0) hk (ord_hi c hf 1) (is_xp c _ (k0_dev30_eq c)) (is_yp c _ (k0_dev31_eq c)) rfl rfl) $$ [HP HR HO]
  on_goal 5 => iapply (wp_sendsF ks vs K c (p := 1) (n := 0) hk (ord_lo c hf 1) (is_xp c _ (k0_dev28_eq c)) (is_yp c _ (k0_dev29_eq c)) rfl rfl) $$ [HP HR HO]
  on_goal 3 => isplitr; · iexact HI
  on_goal 3 => isplitl [HP]; · iexact HP
  on_goal 3 => isplitl [HR] <;> iassumption
  on_goal 4 => isplitr; · iexact HI
  on_goal 4 => isplitl [HP]; · iexact HP
  on_goal 4 => isplitl [HR] <;> iassumption
  on_goal 3 => iintro HC
  on_goal 4 => iintro HC
  all_goals
    rw [wp_ret]; imodintro
    iapply Hk
    isplitl [Ds]; · iexact Ds
    isplitl [Va]; · iexact Va
  on_goal 3 => iexact HC
  on_goal 3 => iexact HC
  all_goals
    isplitl [HP]; · iexact HP
    isplitl [HR] <;> iassumption

/-- The second chunk's forwards by a V device, and the third chunk from the other z. -/
theorem wp_part10 (v2 v5 v8 v9 v10 v11 : BitVec 32) (v12 v13 v143 v145 : BitVec 1) {Q : PUnit → sProp 𝕄} :
    iprop(recs ks vs K ∗ levAts L lv ∗ (ready c (.s 2) ∗ ready c (.a 2)) ∗ mid ks vs c)
      ⊢ iprop(((done ks vs c (.s 2) ∗ done ks vs c (.a 2)) ∗ fwdDone c 0 1 -∗ Q ⟨⟩)
          -∗ wp frame (wpE (defs₀ (F := F)) 𝒱₀ c none) Set.univ (part10 c v2 v5 v8 v9 v10 v11 v12 v13 v143 v145) Q) := by
  unfold part10 mid fwdDone fwdTodo
  rw [k0_part10_eq_skeleton]
  unfold k0_part10_skel
  simp only [Prog.lift, Prog.bind_op, Prog.bind_ret, Prog.pure_eq_ret]
  rcases hk : kk c <;> rcases hf : flo c <;>
    simp only [cond11_iff, cond12_iff, hk, hf, and_true, and_false, reduceCtorEq, dite_true, dite_false, if_true, if_false, Prog.bind_op, Prog.bind_ret]
  on_goal 1 => iintro ⟨#HI, #Hlev, ⟨Rs, Ra⟩, HP, HR, HO⟩ Hk
  on_goal 1 => iapply (wp_sendsF ks vs K c (p := 1) (n := 0) hk (ord_hi c hf 1) (is_xp c _ (k0_dev34_eq c)) (is_yp c _ (k0_dev35_eq c)) rfl rfl) $$ [HP HR HO]
  on_goal 3 => iintro ⟨#HI, #Hlev, ⟨Rs, Ra⟩, HP, HR, HO⟩ Hk
  on_goal 3 => iapply (wp_sendsF ks vs K c (p := 1) (n := 0) hk (ord_lo c hf 1) (is_xp c _ (k0_dev32_eq c)) (is_yp c _ (k0_dev33_eq c)) rfl rfl) $$ [HP HR HO]
  on_goal 1 => isplitr; · iexact HI
  on_goal 1 => isplitl [HP]; · iexact HP
  on_goal 1 => isplitl [HR] <;> iassumption
  on_goal 1 => iintro ⟨HC, HO⟩
  on_goal 2 => isplitr; · iexact HI
  on_goal 2 => isplitl [HP]; · iexact HP
  on_goal 2 => isplitl [HR] <;> iassumption
  on_goal 2 => iintro ⟨HC, HO⟩
  on_goal 3 => iintro ⟨#HI, #Hlev, ⟨Rs, Ra⟩, HC, HO⟩ Hk
  on_goal 4 => iintro ⟨#HI, #Hlev, ⟨Rs, Ra⟩, HC, HO⟩ Hk
  all_goals
    iapply (wp_waitCut ks vs K c true 2 (.s 2) 0 rfl (Or.inr rfl)) $$ [Rs HO]
    · isplitr; · iexact HI
      isplitr; · iexact Hlev
      isplitl [Rs] <;> iassumption
    iintro ⟨Ds, HO⟩
    iapply (wp_waitCut ks vs K c true 2 (.a 2) 0 rfl (Or.inr rfl)) $$ [Ra HO]
    · isplitr; · iexact HI
      isplitr; · iexact Hlev
      isplitl [Ra] <;> iassumption
    iintro ⟨Da, HO⟩
    rw [wp_ret]; imodintro
    iapply Hk
    isplitl [Ds Da]; · isplitl [Ds] <;> iassumption
    isplitl [HC] <;> iassumption

/-- The last chunk from the other z, the first forwarded one. -/
theorem wp_part11 (v2 v5 v8 v9 v10 : BitVec 32) {Q : (Σ' (_ : BitVec 32), BitVec 32) → sProp 𝕄} :
    iprop(recs ks vs K ∗ levAts L lv ∗ (ready c (.s 3) ∗ ready c (.a 3) ∗ ready c (.b 0)) ∗ owing c 0)
      ⊢ iprop((∀ r, ((done ks vs c (.s 3) ∗ done ks vs c (.a 3) ∗ done ks vs c (.b 0)) ∗ owing c 0) -∗ Q r) -∗ wp frame (wpE (defs₀ (F := F)) 𝒱₀ c none) Set.univ (part11 v2 v5 v8 v9 v10) Q) := by
  unfold part11
  rw [k0_part11_eq_skeleton]
  unfold k0_part11_skel
  simp only [Prog.lift, Prog.bind_op, Prog.bind_ret, Prog.pure_eq_ret]
  iintro ⟨#HI, #Hlev, ⟨R0, R1, R2⟩, HO⟩ Hk
  iapply (wp_waitCut ks vs K c true 3 (.s 3) 0 rfl (Or.inr rfl)) $$ [R0 HO]
  · isplitr; · iexact HI
    isplitr; · iexact Hlev
    isplitl [R0] <;> iassumption
  iintro ⟨D0, HO⟩
  iapply (wp_waitCut ks vs K c true 3 (.a 3) 0 rfl (Or.inr rfl)) $$ [R1 HO]
  · isplitr; · iexact HI
    isplitr; · iexact Hlev
    isplitl [R1] <;> iassumption
  iintro ⟨D1, HO⟩
  iapply (wp_waitCut ks vs K c false 0 (.b 0) 0 rfl (Or.inr rfl)) $$ [R2 HO]
  · isplitr; · iexact HI
    isplitr; · iexact Hlev
    isplitl [R2] <;> iassumption
  iintro ⟨D2, HO⟩
  rw [wp_ret]; imodintro
  iapply Hk
  isplitr [HO]
  · isplitl [D0]; · iexact D0
    isplitl [D1]; · iexact D1
    iexact D2
  iexact HO

/-- Two more forwarded chunks. -/
theorem wp_part12 (v5 v8 v10 v194 w : BitVec 32) {Q : PUnit → sProp 𝕄} :
    iprop(recs ks vs K ∗ levAts L lv ∗ (ready c (.b 1) ∗ ready c (.b 2)) ∗ owing c 0)
      ⊢ iprop((((done ks vs c (.b 1) ∗ done ks vs c (.b 2)) ∗ owing c 0) -∗ Q ⟨⟩) -∗ wp frame (wpE (defs₀ (F := F)) 𝒱₀ c none) Set.univ (part12 v5 v8 v10 v194 w) Q) := by
  unfold part12
  rw [k0_part12_eq_skeleton]
  unfold k0_part12_skel
  simp only [Prog.lift, Prog.bind_op, Prog.bind_ret, Prog.pure_eq_ret]
  iintro ⟨#HI, #Hlev, ⟨R0, R1⟩, HO⟩ Hk
  iapply (wp_waitCut ks vs K c false 1 (.b 1) 0 rfl (Or.inr rfl)) $$ [R0 HO]
  · isplitr; · iexact HI
    isplitr; · iexact Hlev
    isplitl [R0] <;> iassumption
  iintro ⟨D0, HO⟩
  iapply (wp_waitCut ks vs K c false 2 (.b 2) 0 rfl (Or.inr rfl)) $$ [R1 HO]
  · isplitr; · iexact HI
    isplitr; · iexact Hlev
    isplitl [R1] <;> iassumption
  iintro ⟨D1, HO⟩
  rw [wp_ret]; imodintro
  iapply Hk
  isplitr [HO]
  · isplitl [D0]; · iexact D0
    iexact D1
  iexact HO

/-- The last forwarded chunk, and the ends of the device's own forwards. -/
theorem wp_part13 {Q : PUnit → sProp 𝕄} :
    iprop(recs ks vs K ∗ levAts L lv ∗ (ready c (.b 3) ∗ ready c (.f 0 0) ∗ ready c (.f 0 1) ∗ ready c (.f 1 0) ∗ ready c (.f 1 1)) ∗ owing c 0)
      ⊢ iprop((((done ks vs c (.b 3) ∗ done ks vs c (.f 0 0) ∗ done ks vs c (.f 0 1) ∗ done ks vs c (.f 1 0) ∗ done ks vs c (.f 1 1)) ∗ owing c 0) -∗ Q ⟨⟩) -∗ wp frame (wpE (defs₀ (F := F)) 𝒱₀ c none) Set.univ (part13) Q) := by
  unfold part13
  rw [k0_part13_eq_skeleton]
  unfold k0_part13_skel
  simp only [Prog.lift, Prog.bind_op, Prog.bind_ret, Prog.pure_eq_ret]
  iintro ⟨#HI, #Hlev, ⟨R0, R1, R2, R3, R4⟩, HO⟩ Hk
  iapply (wp_waitCut ks vs K c false 3 (.b 3) 0 rfl (Or.inr rfl)) $$ [R0 HO]
  · isplitr; · iexact HI
    isplitr; · iexact Hlev
    isplitl [R0] <;> iassumption
  iintro ⟨D0, HO⟩
  iapply (wp_waitCut ks vs K c false 0 (.f 0 0) 0 rfl (Or.inr rfl)) $$ [R1 HO]
  · isplitr; · iexact HI
    isplitr; · iexact Hlev
    isplitl [R1] <;> iassumption
  iintro ⟨D1, HO⟩
  iapply (wp_waitCut ks vs K c false 0 (.f 0 1) 0 rfl (Or.inr rfl)) $$ [R2 HO]
  · isplitr; · iexact HI
    isplitr; · iexact Hlev
    isplitl [R2] <;> iassumption
  iintro ⟨D2, HO⟩
  iapply (wp_waitCut ks vs K c false 0 (.f 1 0) 0 rfl (Or.inr rfl)) $$ [R3 HO]
  · isplitr; · iexact HI
    isplitr; · iexact Hlev
    isplitl [R3] <;> iassumption
  iintro ⟨D3, HO⟩
  iapply (wp_waitCut ks vs K c false 0 (.f 1 1) 0 rfl (Or.inr rfl)) $$ [R4 HO]
  · isplitr; · iexact HI
    isplitr; · iexact Hlev
    isplitl [R4] <;> iassumption
  iintro ⟨D4, HO⟩
  rw [wp_ret]; imodintro
  iapply Hk
  isplitr [HO]
  · isplitl [D0]; · iexact D0
    isplitl [D1]; · iexact D1
    isplitl [D2]; · iexact D2
    isplitl [D3]; · iexact D3
    iexact D4
  iexact HO

end Parts

end Cert.Kernel.Attn

end
-- ==== Proof.Whole.lean ====
/-
  The kernel on one device, whole: from the buffers and the ghost state the launch deals it to the output it leaves.
-/
module

public import proofs.«01_k».proof.Proof.Body

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

local notation "𝕄" => MT nD τ sig Unit (Elt F) ℕ UU ℕ

theorem bigSep22 (Φ : Fin 2 × Fin 2 → sProp 𝕄) : bigSep Finset.univ Φ = iprop((Φ (0, 0) ∗ Φ (0, 1)) ∗ Φ (1, 0) ∗ Φ (1, 1)) := by
  rw [bigSep_univ_prod, bigSep2, bigSep2, bigSep2]

section Whole

variable (ks vs : Dev nD → Tns F) (K : GSem nD τ sig → ℕ) (c : Dev nD)

/-- The first two signals. -/
theorem wp_part5 {Q : _ → sProp 𝕄} :
    iprop(recs ks vs K ∗ (barPay (peer 0 c) 0 ∗ ring c 0) ∗ (barPay (peer 1 c) 1 ∗ ring c 1) ∗ owing c 11)
      ⊢ iprop((∀ v2 v5 v8 v9 v10 v11 v12 v13 v14 v30 v31, ⌜v14.sem = barS⌝ -∗ owing c 9 -∗ Q ⟨c, v2, v5, v8, v9, v10, v11, v12, v13, v14, v30, v31⟩)
          -∗ wp frame (wpE (defs₀ (F := F)) 𝒱₀ c none) Set.univ (part5) Q) := by
  unfold part5
  rw [k0_part5_eq_skeleton]
  unfold k0_part5_skel
  simp only [semSignalWord, Prog.lift, Prog.bind_op, Prog.bind_ret, Prog.pure_eq_ret]
  iintro ⟨#HI, ⟨P0, R0⟩, ⟨P1, R1⟩, HO⟩ Hk
  rw [wp_deviceId]
  iapply (wp_ring ks vs K c (j := 0) (n := 10) (Fin.ext ((k0_dev1_eq c).trans (zp_val c))) rfl rfl rfl) $$ [P0 R0 HO]
  · isplitr; · iexact HI
    isplitl [P0]; · iexact P0
    isplitl [R0] <;> iassumption
  iintro HO
  iapply (wp_ring ks vs K c (j := 1) (n := 9) (is_xp c _ (k0_dev2_eq c)) rfl rfl rfl) $$ [P1 R1 HO]
  · isplitr; · iexact HI
    isplitl [P1]; · iexact P1
    isplitl [R1] <;> iassumption
  iintro HO
  rw [wp_ret]; imodintro
  iapply Hk
  · ipureintro; rfl
  iexact HO

/-- What the two receive buffers hold in the end: the other z's keys, its values. -/
def krOf : Tns F := if kk c then gotA ks vs c else gotB ks vs c
def vrOf : Tns F := if kk c then gotB ks vs c else gotA ks vs c

/-- The output. -/
def outOf (fq : Tns F) : S16x256x64.Idx → Elt F .f32 :=
  k0_pay1 (k0_pay2 fq) (k0_pay4 fq (ks c)) (k0_pay5 fq (ks c) (vs c)) (krOf ks vs c) (vrOf ks vs c)

/-- The buffers a device computes with. -/
def bufs (fq : Tns F) : sProp 𝕄 := iprop(qPts c fullShare fq ∗ sPts true Finset.univ c fullShare (ks c) ∗ sPts false Finset.univ c fullShare (vs c))
def scr : sProp 𝕄 := iprop((∃ f, rPts true Finset.univ c fullShare f) ∗ (∃ f, rPts false Finset.univ c fullShare f))

/-- What the launch deals a device. -/
def dealt : sProp 𝕄 :=
  iprop((cred (tallyAt (barCell c) () 3) ∗ atPos ER (barCell c) 0 ∅ 0)
    ∗ (bigSep Finset.univ fun j => ring c j)
    ∗ (bigSep Finset.univ fun p => toksA c p) ∗ (bigSep Finset.univ fun e : Fin 2 × Fin 2 => toksF c e.1 e.2)
    ∗ (bigSep Finset.univ fun k : Slot => atPos ER (cell c k) 0 ∅ 0)
    ∗ ((bigSep Finset.univ fun p => reached ER (cell c (.a p)) 0) ∗ bigSep Finset.univ fun i => reached ER (cell c (.b i)) 0)
    ∗ ((bigSep Finset.univ fun p : Fin 4 => cred (tallyAt (cell c (.a p)) () N)) ∗ bigSep Finset.univ fun i : Fin 4 => cred (tallyAt (cell c (.b i)) () N)))

/-- The counters, all at zero. -/
def zeros : sProp 𝕄 := iprop(semVal (barCell c) 0 ∗ bigSep Finset.univ fun k : Slot => semVal (cell c k) 0)

/-- The receive buffers by what they receive, not by what they are called. -/
theorem scr_open : (scr c : sProp 𝕄) ⊢ iprop((∃ f, rPts (kk c) Finset.univ c fullShare f) ∗ (∃ f, rPts (!kk c) Finset.univ c fullShare f)) := by
  unfold scr
  cases kk c
  · exact sep_symm
  · exact .rfl

/-- The one of the device's own arrays that the other z does not get. -/
def kept : Tns F := if kk c then vs c else ks c

/-- The staged arrays: a half of the one sent is lent to the copies, the other halves stay for the loads. -/
theorem stag_open : (iprop(sPts true Finset.univ c fullShare (ks c) ∗ sPts false Finset.univ c fullShare (vs c)) : sProp 𝕄)
    ⊣⊢ iprop((sPts (kk c) Finset.univ c fullShare.left (src ks vs c) ∗ sPts (!kk c) Finset.univ c fullShare.left (kept ks vs c))
      ∗ sPts true Finset.univ c fullShare.right (ks c) ∗ sPts false Finset.univ c fullShare.right (vs c)) := by
  have h1 := sPts_halves (F := F) true Finset.univ c (ks c)
  have h2 := sPts_halves (F := F) false Finset.univ c (vs c)
  unfold src kept
  cases kk c
  · constructor
    · iintro ⟨H1, H2⟩
      ihave ⟨A, B⟩ := h1.1 $$ H1
      ihave ⟨A', B'⟩ := h2.1 $$ H2
      isplitl [A A']
      · isplitl [A']; · iexact A'
        iexact A
      isplitl [B] <;> iassumption
    · iintro ⟨⟨A', A⟩, ⟨B, B'⟩⟩
      isplitl [A B]
      · iapply h1.2
        isplitl [A]; · iexact A
        iexact B
      · iapply h2.2
        isplitl [A']; · iexact A'
        iexact B'
  · constructor
    · iintro ⟨H1, H2⟩
      ihave ⟨A, B⟩ := h1.1 $$ H1
      ihave ⟨A', B'⟩ := h2.1 $$ H2
      isplitl [A A']
      · isplitl [A]; · iexact A
        iexact A'
      isplitl [B] <;> iassumption
    · iintro ⟨⟨A, A'⟩, ⟨B, B'⟩⟩
      isplitl [A B]
      · iapply h1.2
        isplitl [A]; · iexact A
        iexact B
      · iapply h2.2
        isplitl [A']; · iexact A'
        iexact B'

/-- The received arrays, by name again. -/
theorem recv_close : (iprop(rPts (kk c) Finset.univ c fullShare (gotA ks vs c) ∗ rPts (!kk c) Finset.univ c fullShare (gotB ks vs c)) : sProp 𝕄)
    ⊢ iprop(rPts true Finset.univ c fullShare (krOf ks vs c) ∗ rPts false Finset.univ c fullShare (vrOf ks vs c)) := by
  unfold krOf vrOf
  cases kk c
  · exact sep_symm
  · exact .rfl

/-- The printed body at the kernel's own buffers. -/
abbrev bodyProg : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) cc0_scratch2 cc0_scratch3

set_option maxHeartbeats 1000000 in
/-- The kernel on one device. -/
theorem wp_body (fq : Tns F) (o : S16x256x64.Idx → Elt F .f32) {Q : PUnit → sProp 𝕄} :
    iprop(recs ks vs K ∗ levAts L lv ∗ dealt c ∗ bufs ks vs c fq ∗ oPts c o ∗ scr c ∗ owing c 11)
      ⊢ iprop(((zeros c ∗ bufs ks vs c fq ∗ oPts c (outOf ks vs c fq) ∗ scr c ∗ owing c 0) -∗ Q ⟨⟩) -∗ wp frame (wpE (defs₀ (F := F)) 𝒱₀ c none) Set.univ (bodyProg) Q) := by
  have hF := makeF (F := F) c
  have hS := joinS ks vs c
  have hB := joinB ks vs c
  rw [bigSep22 (fun e => roomF c e.1 e.2)] at hF
  rw [bigSep4] at hS hB
  unfold bodyProg
  rw [cc0_body_eq_skeleton]
  unfold cc0_body_skel dealt bufs zeros
  rw [bigSep3, bigSep_slot, bigSep_slot, bigSep4 (fun p => cred (tallyAt (cell c (.a p)) () N)), bigSep4 (fun i => cred (tallyAt (cell c (.b i)) () N)),
    bigSep4 (fun p => atPos ER (cell c (.s p)) 0 ∅ 0), bigSep4 (fun p => atPos ER (cell c (.a p)) 0 ∅ 0), bigSep4 (fun p => atPos ER (cell c (.b p)) 0 ∅ 0),
    bigSep22 (fun e => atPos ER (cell c (.f e.1 e.2)) 0 ∅ 0),
    bigSep4 (fun p => semVal (cell c (.s p)) 0), bigSep4 (fun p => semVal (cell c (.a p)) 0), bigSep4 (fun p => semVal (cell c (.b p)) 0),
    bigSep22 (fun e => semVal (cell c (.f e.1 e.2)) 0)]
  iintro ⟨#HI, #Hlev, ⟨Hbar, ⟨R0, R1, R2⟩, TA, TF,
    ⟨⟨S0, S1, S2, S3⟩, ⟨⟨F00, F01⟩, F10, F11⟩, ⟨A0, A1, A2, A3⟩, B0, B1, B2, B3⟩, ⟨RA, RB⟩, ⟨CA0, CA1, CA2, CA3⟩, CB0, CB1, CB2, CB3⟩,
    ⟨Hq, Hst⟩, Ho, Hscr, HO⟩ Hk
  ihave ⟨Ga, Gb⟩ := (scr_open c) $$ Hscr
  ihave P0 := (giveA c) $$ [Ga RA]
  · isplitl [Ga] <;> iassumption
  ihave ⟨P1, P2⟩ := (giveB c) $$ [Gb RB]
  · isplitl [Gb] <;> iassumption
  ihave ⟨⟨Hsend, Hkeep⟩, H1, H2⟩ := (stag_open ks vs c).1 $$ Hst
  rw [wp_bind]
  iapply (wp_part5 ks vs K c) $$ [P0 P1 R0 R1 HO]
  · isplitr; · iexact HI
    isplitl [P0 R0]; · isplitl [P0] <;> iassumption
    isplitl [P1 R1]; · isplitl [P1] <;> iassumption
    iexact HO
  iintro %v2 %v5 %v8 %v9 %v10 %v11 %v12 %v13 %v14 %v30 %v31 %h14 HO
  dsimp only
  rw [wp_bind]
  iapply (wp_part6 ks vs K c v2 v5 v9 v12 v13 h14 v30 v31) $$ [P2 R2 Hbar Hsend TA HO]
  · isplitr; · iexact HI
    isplitr; · iexact Hlev
    isplitl [P2 R2]; · isplitl [P2] <;> iassumption
    isplitl [Hbar]; · iexact Hbar
    isplitl [Hsend TA]; · isplitl [Hsend] <;> iassumption
    iexact HO
  iintro ⟨Vbar, ⟨G1, G2⟩, HCs, HO⟩
  ihave ⟨CS0, CS1, CS2, CS3⟩ := (Entails.of_eq (bigSep4 (fun p : Fin 4 => cred (tallyAt (cell c (.s p)) () N)))) $$ HCs
  ihave ⟨⟨M00, M01⟩, M10, M11⟩ := hF $$ [G1 G2 TF]
  · isplitl [G1]; · iexact G1
    isplitl [G2] <;> iassumption
  rw [wp_bind]
  iapply (wp_part7 ks vs K c v2 v5 v9 v12 (fq := fq)) $$ [Hq H1 H2 CS0 S0 CA0 A0 HO]
  · isplitr; · iexact HI
    isplitr; · iexact Hlev
    isplitl [Hq H1 H2]
    · isplitl [Hq]; · iexact Hq
      isplitl [H1] <;> iassumption
    unfold ready
    isplitl [CS0 S0 CA0 A0]
    · isplitl [CS0 S0]; · isplitl [CS0] <;> iassumption
      isplitl [CA0] <;> iassumption
    iexact HO
  iintro %v86 ⟨⟨Hq, H1, H2⟩, ⟨DS0, DA0⟩, HO⟩
  ihave ⟨VA0, PA0⟩ := (done_open ks vs c (.a 0)) $$ DA0
  dsimp only
  rw [wp_bind]
  iapply (wp_part8 ks vs K c v2 v5 v8 v10 v11 v12 v13 v86 1#1) $$ [PA0 M00 M01 HO]
  · isplitr; · iexact HI
    unfold fwdTodo
    isplitl [PA0]; · iexact PA0
    isplitl [M00 M01]; · isplitl [M00] <;> iassumption
    iexact HO
  unfold fwdDone
  iintro ⟨⟨CF00, CF01⟩, HO⟩
  rw [wp_bind]
  iapply (wp_part9 ks vs K c v2 v5 v8 v9 v10 v11 v12 v13) $$ [CS1 S1 CA1 A1 M10 M11 HO]
  · isplitr; · iexact HI
    isplitr; · iexact Hlev
    unfold ready
    isplitl [CS1 S1 CA1 A1]
    · isplitl [CS1 S1]; · isplitl [CS1] <;> iassumption
      isplitl [CA1] <;> iassumption
    isplitl [M10 M11]; · isplitl [M10] <;> iassumption
    iexact HO
  iintro %r9 ⟨DS1, VA1, Hmid⟩
  obtain ⟨v143, v145⟩ := r9
  dsimp only
  rw [wp_bind]
  iapply (wp_part10 ks vs K c v2 v5 v8 v9 v10 v11 v12 v13 v143 v145) $$ [CS2 S2 CA2 A2 Hmid]
  · isplitr; · iexact HI
    isplitr; · iexact Hlev
    unfold ready
    isplitr [Hmid]
    · isplitl [CS2 S2]; · isplitl [CS2] <;> iassumption
      isplitl [CA2] <;> iassumption
    iexact Hmid
  unfold fwdDone
  iintro ⟨⟨DS2, DA2⟩, ⟨CF10, CF11⟩, HO⟩
  rw [wp_bind]
  iapply (wp_part11 ks vs K c v2 v5 v8 v9 v10) $$ [CS3 S3 CA3 A3 CB0 B0 HO]
  · isplitr; · iexact HI
    isplitr; · iexact Hlev
    unfold ready
    isplitr [HO]
    · isplitl [CS3 S3]; · isplitl [CS3] <;> iassumption
      isplitl [CA3 A3]; · isplitl [CA3] <;> iassumption
      isplitl [CB0] <;> iassumption
    iexact HO
  iintro %r11 ⟨⟨DS3, DA3, DB0⟩, HO⟩
  obtain ⟨v194, w194⟩ := r11
  dsimp only
  rw [wp_bind]
  iapply (wp_part12 ks vs K c v5 v8 v10 v194 w194) $$ [CB1 B1 CB2 B2 HO]
  · isplitr; · iexact HI
    isplitr; · iexact Hlev
    unfold ready
    isplitr [HO]
    · isplitl [CB1 B1]; · isplitl [CB1] <;> iassumption
      isplitl [CB2] <;> iassumption
    iexact HO
  iintro ⟨⟨DB1, DB2⟩, HO⟩
  rw [wp_bind]
  iapply (wp_part13 ks vs K c) $$ [CB3 B3 CF00 F00 CF01 F01 CF10 F10 CF11 F11 HO]
  · isplitr; · iexact HI
    isplitr; · iexact Hlev
    unfold ready
    isplitr [HO]
    · isplitl [CB3 B3]; · isplitl [CB3] <;> iassumption
      isplitl [CF00 F00]; · isplitl [CF00] <;> iassumption
      isplitl [CF01 F01]; · isplitl [CF01] <;> iassumption
      isplitl [CF10 F10]; · isplitl [CF10] <;> iassumption
      isplitl [CF11] <;> iassumption
    iexact HO
  iintro ⟨⟨DB3, DF00, DF01, DF10, DF11⟩, HO⟩
  ihave ⟨VS0, PS0⟩ := (done_open ks vs c (.s 0)) $$ DS0
  ihave ⟨VS1, PS1⟩ := (done_open ks vs c (.s 1)) $$ DS1
  ihave ⟨VS2, PS2⟩ := (done_open ks vs c (.s 2)) $$ DS2
  ihave ⟨VS3, PS3⟩ := (done_open ks vs c (.s 3)) $$ DS3
  ihave ⟨VA2, PA2⟩ := (done_open ks vs c (.a 2)) $$ DA2
  ihave ⟨VA3, PA3⟩ := (done_open ks vs c (.a 3)) $$ DA3
  ihave ⟨VB0, PB0⟩ := (done_open ks vs c (.b 0)) $$ DB0
  ihave ⟨VB1, PB1⟩ := (done_open ks vs c (.b 1)) $$ DB1
  ihave ⟨VB2, PB2⟩ := (done_open ks vs c (.b 2)) $$ DB2
  ihave ⟨VB3, PB3⟩ := (done_open ks vs c (.b 3)) $$ DB3
  ihave ⟨VF00, PF00⟩ := (done_open ks vs c (.f 0 0)) $$ DF00
  ihave ⟨VF01, PF01⟩ := (done_open ks vs c (.f 0 1)) $$ DF01
  ihave ⟨VF10, PF10⟩ := (done_open ks vs c (.f 1 0)) $$ DF10
  ihave ⟨VF11, PF11⟩ := (done_open ks vs c (.f 1 1)) $$ DF11
  ihave Hsend := hS $$ [PS0 PS1 PS2 PS3]
  · isplitl [PS0]; · iexact PS0
    isplitl [PS1]; · iexact PS1
    isplitl [PS2] <;> iassumption
  ihave HB := hB $$ [PB0 PB1 PB2 PB3]
  · isplitl [PB0]; · iexact PB0
    isplitl [PB1]; · iexact PB1
    isplitl [PB2] <;> iassumption
  ihave HA := (joinA ks vs c) $$ [PF00 PF01 PF10 PF11 PA2 PA3]
  · isplitl [PF00 PF01]; · isplitl [PF00] <;> iassumption
    isplitl [PF10 PF11]; · isplitl [PF10] <;> iassumption
    isplitl [PA2] <;> iassumption
  ihave ⟨HKr, HVr⟩ := (recv_close ks vs c) $$ [HA HB]
  · isplitl [HA] <;> iassumption
  simp only [Prog.lift, Prog.bind_op, Prog.bind_ret, Prog.pure_eq_ret]
  iapply (wp_loadR c (b := true)) $$ HKr
  iintro HKr
  iapply (wp_loadR c (b := false)) $$ HVr
  iintro HVr
  iapply (wp_loadO c) $$ Ho
  iintro Ho
  iapply (wp_storeO c) $$ Ho
  iintro Ho
  rw [wp_ret]; imodintro
  iapply Hk
  isplitl [Vbar VS0 VS1 VS2 VS3 VA0 VA1 VA2 VA3 VB0 VB1 VB2 VB3 VF00 VF01 VF10 VF11]
  · isplitl [Vbar]; · iexact Vbar
    isplitl [VS0 VS1 VS2 VS3]
    · isplitl [VS0]; · iexact VS0
      isplitl [VS1]; · iexact VS1
      isplitl [VS2] <;> iassumption
    isplitl [VF00 VF01 VF10 VF11]
    · isplitl [VF00 VF01]; · isplitl [VF00] <;> iassumption
      isplitl [VF10] <;> iassumption
    isplitl [VA0 VA1 VA2 VA3]
    · isplitl [VA0]; · iexact VA0
      isplitl [VA1]; · iexact VA1
      isplitl [VA2] <;> iassumption
    isplitl [VB0]; · iexact VB0
    isplitl [VB1]; · iexact VB1
    isplitl [VB2] <;> iassumption
  isplitl [Hq Hsend Hkeep H1 H2]
  · isplitl [Hq]; · iexact Hq
    iapply (stag_open ks vs c).2
    isplitl [Hsend Hkeep]; · isplitl [Hsend] <;> iassumption
    isplitl [H1] <;> iassumption
  isplitl [Ho]; · iexact Ho
  isplitl [HKr HVr]
  · unfold scr
    isplitl [HKr]; · iexists _; iexact HKr
    iexists _; iexact HVr
  iexact HO

end Whole

end Cert.Kernel.Attn

end
-- ==== Proof.Region.lean ====
/-
  The kernel among its program: what its windows hold, its body's obligation, and the three stretches of the program
  (the reshapings before it, the kernel, the reshapings after it) as segments.
-/
module

public import proofs.«01_k».proof.Proof.Whole
public import Idealize.ShloMosaic.Lib.Pipeline.RegionTalk

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen Cert.Mesh

variable {F : FTy → Type} [FloatOps F]

local notation "𝕄" => MT nD τ sig Unit (Elt F) ℕ UU ℕ

variable (m : (ℓ : Loc nD τ sig) → Buf (Elt F) ℓ)

/-! ## What the buffers hold -/

/-- A device's buffers at launch, when the kernel is entered, when it is left, at the end. -/
abbrev Vst (c : Dev nD) : Valuation τ sig (Elt F) := fun b => m (c, b)
abbrev Vin (c : Dev nD) : Valuation τ sig (Elt F) := StableHlo.after hostOps0 (Vst m c)

/-- The staged queries, keys and values. -/
def qsOf (c : Dev nD) : Tns F := Vin m c main_v4
def ksOf (c : Dev nD) : Tns F := Vin m c main_v6
def vsOf (c : Dev nD) : Tns F := Vin m c main_v8

/-- What the kernel leaves in its output. -/
def outM (c : Dev nD) : S16x256x64.Idx → Elt F .f32 := outOf (ksOf m) (vsOf m) c (qsOf m c)

abbrev Vout (c : Dev nD) : Valuation τ sig (Elt F) := Function.update (Vin m c) (Proc.devRef .tc main_v9) (outM m c)
abbrev Vend (c : Dev nD) : Valuation τ sig (Elt F) := StableHlo.after hostOps1 (Vout m c)

/-! ## The kernel's proof data -/

/-- Before the body: what the launch dealt, the invariants and levels, the receive buffers. After it: every semaphore back at zero. -/
def opened (c : Dev nD) : sProp 𝕄 := iprop(∃ K, recs (ksOf m) (vsOf m) K ∗ levAts L lv ∗ dealt c)
def inv0 (c : Dev nD) : sProp 𝕄 := iprop(scr c ∗ (∃ r, prngReg c r) ∗ opened m c)
def inv1 (c : Dev nD) : sProp 𝕄 := iprop(scr c ∗ (∃ r, prngReg c r) ∗ zeros c)

def dat0 (c : Dev nD) : Dat τ (Elt F) Unit ℕ UU ℕ cfg0 c where
  A w := Vin m c (Proc.devRef .tc (Pipeline.arrRef spec0 w))
  after w _ := match w with
    | ⟨0, _⟩ => qsOf m c
    | ⟨1, _⟩ => ksOf m c
    | ⟨2, _⟩ => vsOf m c
    | ⟨3, _⟩ => outM m c
  Φ t := if t.val = 0 then inv0 m c else inv1 c
  q _ := fullShare
  owed t := if t.val = 0 then owe c 11 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

/-- The one block of a window is its whole array. -/
theorem before0 (c : Dev nD) (d) : (dat0 m c).before 0 t0_0 d = qsOf m c := by
  unfold Dat.before; rw [if_pos (fetch0_0 _)]
  exact Memref.read_access_unit_zero (Elt F) main_v4
    (show (fun a => (win0_0.index t0_0) a * main_v4.ty.shape.size a) = fun _ => 0 from funext fun a => by fin_cases a <;> decide)
    (fun a => by fin_cases a <;> decide) (Vin m c main_v4)
theorem before1 (c : Dev nD) (d) : (dat0 m c).before 1 t0_0 d = ksOf m c := by
  unfold Dat.before; rw [if_pos (fetch0_1 _)]
  exact Memref.read_access_unit_zero (Elt F) main_v6
    (show (fun a => (win0_1.index t0_0) a * main_v6.ty.shape.size a) = fun _ => 0 from funext fun a => by fin_cases a <;> decide)
    (fun a => by fin_cases a <;> decide) (Vin m c main_v6)
theorem before2 (c : Dev nD) (d) : (dat0 m c).before 2 t0_0 d = vsOf m c := by
  unfold Dat.before; rw [if_pos (fetch0_2 _)]
  exact Memref.read_access_unit_zero (Elt F) main_v8
    (show (fun a => (win0_2.index t0_0) a * main_v8.ty.shape.size a) = fun _ => 0 from funext fun a => by fin_cases a <;> decide)
    (fun a => by fin_cases a <;> decide) (Vin m c main_v8)

theorem arrAt3 (c : Dev nD) : (dat0 m c).arrAt 3 cfg0.N = outM m c := by
  have h3 : (fun a => (win0_3.index t0_0) a * main_v9.ty.shape.size a) = fun _ => 0 := funext fun a => by fin_cases a <;> decide
  have hw : ((cfg0.win 3).blk t0_0).view.read (Elt F) ((dat0 m c).arrAt 3 cfg0.N) = (dat0 m c).flushed 3 t0_0 := by
    rw [show cfg0.N = t0_0.val + 1 from rfl, (dat0 m c).arrAt_succ (3 : Fin 4) t0_0, flush0_3, if_pos rfl]
    exact View.read_write_univ _ _
  refine (Memref.read_access_unit_zero (Elt F) main_v9 h3 (fun a => by fin_cases a <;> decide) ((dat0 m c).arrAt 3 cfg0.N)).symm.trans (hw.trans ?_)
  exact funext fun _ => rfl

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_first (c : Dev nD) : (dat0 (F := F) m c).owed t0_0.castSucc = owe c 11 := by
  show (if (t0_0.castSucc : Fin (cfg0.N + 1)).val = 0 then owe c 11 else 0) = owe c 11; exact if_pos rfl
theorem owed_last (c : Dev nD) : (dat0 (F := F) m c).owed (Fin.last _) = 0 := by
  show (if (Fin.last cfg0.N).val = 0 then owe c 11 else 0) = 0
  rw [Fin.val_last, if_neg (by rw [show cfg0.N = 1 from N_0]; decide)]
theorem Φ_first (c : Dev nD) : (dat0 (F := F) m c).Φ t0_0.castSucc = inv0 m c := by
  show (if (t0_0.castSucc : Fin (cfg0.N + 1)).val = 0 then inv0 m c else inv1 c) = inv0 m c; exact if_pos rfl
theorem Φ_last (c : Dev nD) : (dat0 (F := F) m c).Φ (Fin.last _) = inv1 c := by
  show (if (Fin.last cfg0.N).val = 0 then inv0 m c else inv1 c) = inv1 c
  rw [Fin.val_last, if_neg (by rw [show cfg0.N = 1 from N_0]; decide)]

theorem owesAt_in (c : Dev nD) : (dat0 (F := F) m c).owesAt () t0_0.castSucc ⊢ (owing c 11 : sProp 𝕄) := by
  unfold Dat.owesAt Pipeline.owesWithin owing; rw [owed_first]
  iintro ⟨%W, -, HO⟩; iexists W; iexact HO
theorem owesAt_out (c : Dev nD) : (owing c 0 : sProp 𝕄) ⊢ (dat0 (F := F) m c).owesAt () (Fin.last _) := by
  unfold Dat.owesAt Pipeline.owesWithin Dat.bound owing; rw [owed_last]
  iintro ⟨%W, HO⟩; iexists W; isplitr; · ipureintro; exact fun _ _ => Or.inl trivial
  iexact HO

set_option maxRecDepth 4000 in
/-- The body keeps the pipeline's part of the bargain. -/
theorem body_obligation (c : Dev nD) : BodyObligation (dat0 (F := F) m c) defs₀ 𝒱₀ () Set.univ := fun t => by
  obtain rfl := fin_N0 t
  rw [bigSep_W0, bigSep_W0]
  simp only [owns_eq]
  rw [Φ_first, show (dat0 m c).Φ t0_0.succ = inv1 c from Φ_last m c]
  unfold inv0 inv1 opened
  iintro ⟨⟨Hs, Hp, %K, #HR, #HL, Hd⟩, HO, ⟨%d0, %f0, %hf0, H0⟩, ⟨%d1, %f1, %hf1, H1⟩, ⟨%d2, %f2, %hf2, H2⟩, ⟨%d3, %f3, %hf3, H3⟩⟩
  rw [before0] at hf0
  rw [before1] at hf1
  rw [before2] at hf2
  subst hf0; subst hf1; subst hf2
  iapply (wp_body (ksOf m) (vsOf m) K c (qsOf m c) f3) $$ [Hd H0 H1 H2 H3 Hs HO]
  · isplitr; · iexact HR
    isplitr; · iexact HL
    isplitl [Hd]; · iexact Hd
    isplitl [H0 H1 H2]
    · unfold bufs qPts sPts
      isplitl [H0]; · iexact H0
      isplitl [H1]; · iexact H1
      iexact H2
    isplitl [H3]; · unfold oPts; iexact H3
    isplitl [Hs]; · iexact Hs
    iapply (owesAt_in m c) $$ HO
  unfold bufs qPts sPts oPts
  iintro ⟨Hz, ⟨H0, H1, H2⟩, H3, Hs, HO⟩
  isplitl [Hs Hp Hz]
  · isplitl [Hs]; · iexact Hs
    isplitl [Hp]; · iexact Hp
    iexact Hz
  isplitl [HO]; · iapply (owesAt_out m c) $$ HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

/-! ## Entering and leaving the kernel -/

/-- The kernel's own semaphores. -/
abbrev osem (k : Slot) : SemLoc sig := .dma (dsem k)
theorem own_sems : Pipeline.OwnSemFacts spec0 osem := by decide

/-- What a device keeps of the launch until the kernel is entered: as `dealt`, its transfer cells not yet open. -/
def dealt0 (c : Dev nD) : sProp 𝕄 :=
  iprop(∃ K, recs (ksOf m) (vsOf m) K ∗ (cred (tallyAt (barCell c) () 3) ∗ atPos ER (barCell c) 0 ∅ 0)
    ∗ (bigSep Finset.univ fun j => ring c j)
    ∗ ((bigSep Finset.univ fun p : Fin 4 => dutyTok ER (cell c (.s p)) 0 0) ∗ bigSep Finset.univ fun p : Fin 4 => dutyTok ER (cell (zp c) (.a p)) 0 0)
    ∗ ((bigSep Finset.univ fun e : Fin 2 × Fin 2 => dutyTok ER (cell c (.f e.1 e.2)) 0 0)
      ∗ bigSep Finset.univ fun e : Fin 2 × Fin 2 => dutyTok ER (cell (fpeer e.2 c) (.b (fwd c e.1))) 0 0)
    ∗ (bigSep Finset.univ fun k : Slot => openTok ER (cell c k))
    ∗ ((bigSep Finset.univ fun p : Fin 4 => cred (tallyAt (cell c (.a p)) () N)) ∗ bigSep Finset.univ fun i : Fin 4 => cred (tallyAt (cell c (.b i)) () N)))

/-- Every transfer cell of a device opened, from its counter at zero. -/
theorem open_cells (ks vs : Dev nD → Tns F) (K : GSem nD τ sig → ℕ) (c : Dev nD) :
    iprop(recs ks vs K ∗ (bigSep Finset.univ fun k : Slot => openTok ER (cell c k)) ∗ bigSep Finset.univ fun k : Slot => semVal (cell c k) 0)
      ⊢ (|={Set.univ}=> bigSep Finset.univ fun k : Slot => iprop(atPos ER (cell c k) 0 ∅ 0 ∗ reached ER (cell c k) 0) : sProp 𝕄) := by
  rw [← bigSep_sep']
  refine (bigSep_with_persistent (Ψ := fun k : Slot => iprop(|={Set.univ}=> (atPos ER (cell c k) 0 ∅ 0 ∗ reached ER (cell c k) 0))) fun k _ => ?_).trans (bigSep_fupd _ _)
  iintro ⟨#HR, Ho, Hv⟩
  iapply (Rounds.cell_open ER (rd ks vs) (g := cell c k) (Set.mem_univ (K (cell c k))))
  isplitr; · iapply (recs_cell ks vs K c k); iexact HR
  isplitl [Ho] <;> iassumption

theorem hopen (c : Dev nD) : iprop(dealt0 m c ∗ Pipeline.ownSems0 osem c ∗ levAts L lv) ⊢ (|={Set.univ}=> opened m c : sProp 𝕄) := by
  unfold dealt0 opened dealt Pipeline.ownSems0
  iintro ⟨⟨%K, #HR, Hb, Hring, ⟨Hs, Ha⟩, ⟨Hf, Hfb⟩, Ho, Hcr⟩, Hz, #HL⟩
  imod (open_cells (ksOf m) (vsOf m) K c) $$ [Ho Hz] with H
  · isplitr; · iexact HR
    isplitl [Ho]; · iexact Ho
    iexact Hz
  ihave H' := (Entails.of_eq (bigSep_sep' Finset.univ (fun k : Slot => atPos ER (cell c k) 0 ∅ 0) fun k => reached ER (cell c k) 0)) $$ H; icases H' with ⟨Hat, Hre⟩
  ihave Hre' := (Entails.of_eq (bigSep_slot fun k => reached ER (cell c k) 0)) $$ Hre
  icases Hre' with ⟨#Rs, #Rf, #Ra, #Rb⟩
  imodintro
  iexists K
  isplitr; · iexact HR
  isplitr; · iexact HL
  isplitl [Hb]; · iexact Hb
  isplitl [Hring]; · iexact Hring
  isplitl [Hs Ha]
  · unfold toksA
    iapply (Entails.of_eq (bigSep_sep' _ _ _).symm); isplitl [Hs]; · iexact Hs
    iapply (Entails.of_eq (bigSep_sep' _ _ _).symm); isplitr; · iexact Rs
    iexact Ha
  isplitl [Hf Hfb]
  · unfold toksF
    iapply (Entails.of_eq (bigSep_sep' _ _ _).symm); isplitl [Hf]; · iexact Hf
    iapply (Entails.of_eq (bigSep_sep' _ _ _).symm); isplitr; · iexact Rf
    iexact Hfb
  isplitl [Hat]; · iexact Hat
  isplitr; · isplitr; · iexact Ra
             iexact Rb
  iexact Hcr

theorem held_none (c : Dev nD) (W : Valuation τ sig (Elt F)) : (StableHlo.held (c.tc : Thread nD τ) ∅ W : sProp 𝕄) = BI.emp := by
  unfold StableHlo.held; exact BI.bigSep_empty

theorem scr_eq (c : Dev nD) : (Pipeline.scopedRest (Ix := Unit) (Name := ℕ) (U := UU) (Lvl := ℕ) (Val := Elt F) spec0 c : sProp 𝕄) = scr c :=
  scopedRest0_eq c

theorem hin (c : Dev nD) : iprop(Pipeline.scopedRest (Pipeline.pin (pcfgs (F := F)) adm 0).spec c ∗ (∃ r, prngReg c r) ∗ StableHlo.held (c.tc : Thread nD τ) ∅ (Vin m c) ∗ opened m c)
    ⊢ (pdats m 0 c).Φ 0 := by
  rw [show (pdats m 0 c).Φ 0 = inv0 m c from Φ_first m c, held_none]
  unfold inv0
  iintro ⟨Hs, Hp, -, HX⟩
  isplitl [Hs]; · iapply (Entails.of_eq (scr_eq c)) $$ Hs
  isplitl [Hp]; · iexact Hp
  iexact HX

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vout m c)
      ∗ Pipeline.ownSems0 osem c ∗ semVal (barCell c) 0) := by
  rw [show (pdats m 0 c).Φ (Fin.last _) = inv1 c from Φ_last m c, held_none]
  unfold inv1 zeros Pipeline.ownSems0
  iintro ⟨Hs, Hp, Hb, Hz⟩
  isplitl [Hs]; · iapply (Entails.of_eq (scr_eq c).symm) $$ Hs
  isplitl [Hp]; · iexact Hp
  isplitr; · iempintro
  isplitl [Hz]; · iexact Hz
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then owe c 11 else 0 := rfl
  rw [e] at h
  split at h
  · obtain ⟨k, -, rfl⟩ := owe_pos c 11 g i h
    refine ⟨by unfold L; rw [if_pos (due_tc c k)]; exact Finset.mem_singleton_self _, ?_⟩
    rw [lv_due]; split_ifs <;> decide
  · exact absurd h (Nat.lt_irrefl 0)

/-- The windows' arrays, and the program's other buffers. -/
abbrev arrs : Finset (DevRef τ sig) := Pipeline.arrRefs (τ := τ) spec0
abbrev rest : Finset (DevRef τ sig) := Pipeline.ucRefs τ sig \ arrs

theorem v9_mem : (Proc.devRef .tc main_v9 : DevRef τ sig) ∈ arrs :=
  Finset.mem_map_of_mem _ (Finset.mem_image_of_mem (Pipeline.arrRef spec0) (Finset.mem_univ (3 : Fin 4)))

theorem Vout_rest (c : Dev nD) : ∀ b ∈ rest \ ∅, Vout m c b = Vin m c b := fun b hb =>
  Function.update_of_ne (fun e : b = Proc.devRef .tc main_v9 => (Finset.mem_sdiff.mp (Finset.mem_sdiff.mp hb).1).2 (by rw [e]; exact v9_mem)) _ _

theorem Vout_arr (c : Dev nD) (w : Fin 4) : (dat0 m c).arrAt w cfg0.N = Vout m c (Proc.devRef .tc (Pipeline.arrRef spec0 w)) := by
  match w with
  | 0 => exact ((dat0 m c).arrAt_in 0 rfl _).trans (Function.update_of_ne (show (Proc.devRef .tc main_v4 : DevRef τ sig) ≠ Proc.devRef .tc main_v9 by decide) (outM m c) (Vin m c)).symm
  | 1 => exact ((dat0 m c).arrAt_in 1 rfl _).trans (Function.update_of_ne (show (Proc.devRef .tc main_v6 : DevRef τ sig) ≠ Proc.devRef .tc main_v9 by decide) (outM m c) (Vin m c)).symm
  | 2 => exact ((dat0 m c).arrAt_in 2 rfl _).trans (Function.update_of_ne (show (Proc.devRef .tc main_v8 : DevRef τ sig) ≠ Proc.devRef .tc main_v9 by decide) (outM m c) (Vin m c)).symm
  | 3 => exact (arrAt3 m c).trans (Function.update_self (Proc.devRef .tc main_v9) (outM m c) (Vin m c)).symm

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The kernel as a segment. -/
def reg0 : ℝ𝕊 0 :=
  Pipeline.RegionSeg.ofTalk (pcfgs (F := F)) adm (pdats m) () defs₀ 𝒱₀ L lv 0 osem own_sems
    ∅ rest (Finset.empty_subset _) kitP rfl (fun c => (body_obligation m c).loose)
    (fun _ => 0) (fun c => owe c 11) (fun c => (owed_first m c).trans (zero_add _).symm) (owed_last m) (fun _ => rfl)
    (fun c w => by match w with | 0 => rfl | 1 => rfl | 2 => rfl | 3 => rfl)
    (Vin m) (Vout m) (Vout_rest m)
    (dealt0 m) (fun c => semVal (barCell c) 0) (opened m) (fun c => semVal (barCell c) 0) (hopen m) (hin m) (hout m)
    (fun c => by iintro H; imodintro; iexact H)
    (fun _ => 0)
    ⟨fun c w s => by rw [L_tc]; exact Finset.mem_singleton_self _,
      fun c w s => by match w with | 0 => exact Nat.le_refl 0 | 1 => exact Nat.le_refl 0 | 2 => exact Nat.le_refl 0 | 3 => exact Nat.le_refl 0,
      fun c t g i h => cutD m c t g i h⟩
    (fun _ => iprop(emp))
    (fun c w => by match w with | 0 => rfl | 1 => rfl | 2 => rfl | 3 => rfl) (Vout_arr m)

/-- What rides along beside the buffers before the kernel, and after it. -/
def before (c : Dev nD) : sProp 𝕄 := iprop(dealt0 m c ∗ (∃ r, prngReg c r) ∗ owing c 11)
def after (c : Dev nD) : sProp 𝕄 := iprop(semVal (barCell c) 0 ∗ owing c 0)

theorem ops_sub0 : ∀ op ∈ (hostOps0 : List (HloOp τ sig (Elt F))), op.bufs ⊆ Pipeline.ucRefs τ sig := fun op h =>
  Pipeline.sub_ucRefs op (List.forall_iff_forall_mem.mp hostOps0_sub op h)
theorem ops_sub1 : ∀ op ∈ (hostOps1 : List (HloOp τ sig (Elt F))), op.bufs ⊆ Pipeline.ucRefs τ sig := fun op h =>
  Pipeline.sub_ucRefs op (List.forall_iff_forall_mem.mp hostOps1_sub op h)

def seg0 : ℍ := Pipeline.HostSeg.ofOps _ _ _ _ _ (Pipeline.ucRefs τ sig) hostOps0 ops_sub0 (List.forall_iff_forall_mem.mp hostOps0_fresh) (Vst m) (before m)
def seg1 : ℍ := Pipeline.HostSeg.ofOps _ _ _ _ _ (Pipeline.ucRefs τ sig) hostOps1 ops_sub1 (List.forall_iff_forall_mem.mp hostOps1_fresh) (Vout m) after

theorem arrs_sub : arrs ⊆ Pipeline.ucRefs τ sig := Pipeline.arrRefs_sub_ucRefs spec0 winFacts0.arr_unscoped

theorem seg0_reg0 (c : Dev nD) : (seg0 m).post c ⊢ (reg0 m).pre c := by
  show iprop(StableHlo.held (c.tc : Thread nD τ) (Pipeline.ucRefs τ sig) (Vin m c) ∗ before m c)
    ⊢ iprop(StableHlo.held (c.tc : Thread nD τ) arrs (Vin m c) ∗ (∃ r, prngReg c r)
      ∗ (StableHlo.held (c.tc : Thread nD τ) rest (Vin m c) ∗ emp) ∗ dealt0 m c ∗ ∃ Wd, owes (c : Thread nD τ) (0 + owe c 11) Wd)
  rw [StableHlo.held_sub_split (c.tc : Thread nD τ) arrs_sub (Vin m c), zero_add]
  unfold before owing
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

theorem reg0_seg1 (c : Dev nD) : (reg0 m).post c ⊢ (seg1 m).pre c := by
  show iprop(StableHlo.held (c.tc : Thread nD τ) arrs (Vout m c) ∗ (∃ r, prngReg c r)
      ∗ (StableHlo.held (c.tc : Thread nD τ) rest (Vout m c) ∗ emp) ∗ semVal (barCell c) 0 ∗ ∃ Wd, owes (c : Thread nD τ) (0 : CellTallies nD τ sig Unit) Wd)
    ⊢ iprop(StableHlo.held (c.tc : Thread nD τ) (Pipeline.ucRefs τ sig) (Vout m c) ∗ after c)
  rw [StableHlo.held_sub_split (c.tc : Thread nD τ) arrs_sub (Vout m c)]
  unfold after owing
  iintro ⟨Ha, -, ⟨Hr, -⟩, Hb, HO⟩
  isplitl [Ha Hr]; · isplitl [Ha] <;> iassumption
  isplitl [Hb]; · iexact Hb
  iexact HO

/-- The program, segment by segment. -/
def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

end Cert.Kernel.Attn

end
-- ==== Proof.Launch.lean ====
/-
  The launch: every cell's invariant allocated, every token and credit handed to the device that uses it, and the run of
  the whole program to its end.
-/
module

public import proofs.«01_k».proof.Proof.Region
public import Idealize.ShloMosaic.Lib.Quiescent

@[expose] public section

noncomputable section

namespace Cert.Kernel.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Mesh

variable {F : FTy → Type} [FloatOps F]

local notation "𝕄" => MT nD τ sig Unit (Elt F) ℕ UU ℕ

/-! ## Tokens -/

/-- One token for each neighbour's signal to each barrier cell, one for the one transfer into each transfer cell. -/
def barTok : Dev nD × Fin 3 ↪ GSem nD τ sig × ℕ × Fin 3 :=
  ⟨fun e => (barCell e.1, 0, e.2), fun _ _ h => Prod.ext (barEmb.injective (congrArg (fun t => t.1) h)) (congrArg (fun t => t.2.2) h)⟩
def cellTok : Dev nD × Slot ↪ GSem nD τ sig × ℕ × Fin 3 :=
  ⟨fun e => (cell e.1 e.2, 0, 0), fun _ _ h => cellEmb.injective (congrArg (fun t => t.1) h)⟩

theorem bar_ne_cell (c c' : Dev nD) (k : Slot) : barCell c ≠ cell c' k := fun h => dsem_ne_bar k (congrArg Prod.snd h).symm

theorem cells_disjoint : Disjoint (barCells : Finset (GSem nD τ sig)) xCells := by
  rw [Finset.disjoint_left]
  rintro g h₁ h₂
  obtain ⟨c, -, rfl⟩ := Finset.mem_map.mp h₁
  obtain ⟨e, -, h⟩ := Finset.mem_map.mp h₂
  exact bar_ne_cell c e.1 e.2 h.symm

def allToks : Finset (GSem nD τ sig × ℕ × Fin 3) := Finset.univ.map barTok ∪ Finset.univ.map cellTok

theorem toks_disjoint : Disjoint (Finset.univ.map barTok) (Finset.univ.map cellTok) := by
  rw [Finset.disjoint_left]
  rintro g h₁ h₂
  obtain ⟨e, -, rfl⟩ := Finset.mem_map.mp h₁
  obtain ⟨e', -, h⟩ := Finset.mem_map.mp h₂
  exact bar_ne_cell e.1 e'.1 e'.2 (congrArg (fun t => t.1) h).symm

def zpEquiv : Dev nD ≃ Dev nD := ⟨zp, zp, zp_zp, zp_zp⟩
def peerEquiv : Dev nD × Fin 3 ≃ Dev nD × Fin 3 :=
  ⟨fun e => (peer e.2 e.1, e.2), fun e => (peer e.2 e.1, e.2), fun e => by simp only [peer_peer], fun e => by simp only [peer_peer]⟩

/-- The tokens a device pays with: its signals to its neighbours, its copies to the other z (its own cell and that
    device's), its forwards (its own cell and the neighbour's). -/
def purse (c : Dev nD) : sProp 𝕄 :=
  iprop((bigSep Finset.univ fun j => dutyTok ER (barCell (peer j c)) 0 j)
    ∗ ((bigSep Finset.univ fun p : Fin 4 => dutyTok ER (cell c (.s p)) 0 0) ∗ bigSep Finset.univ fun p : Fin 4 => dutyTok ER (cell (zp c) (.a p)) 0 0)
    ∗ ((bigSep Finset.univ fun e : Fin 2 × Fin 2 => dutyTok ER (cell c (.f e.1 e.2)) 0 0)
      ∗ bigSep Finset.univ fun e : Fin 2 × Fin 2 => dutyTok ER (cell (fpeer e.2 c) (.b (fwd c e.1))) 0 0))

/-- All tokens, dealt to the devices that pay with them. -/
theorem toks_dealt : bigSep allToks (fun x => (dutyTok ER x.1 x.2.1 x.2.2 : sProp 𝕄)) ⊢ bigSep Finset.univ fun c : Dev nD => purse c := by
  have hbar : bigSep Finset.univ (fun e : Dev nD × Fin 3 => (dutyTok ER (barCell e.1) 0 e.2 : sProp 𝕄))
      = bigSep Finset.univ fun c : Dev nD => bigSep Finset.univ fun j => dutyTok ER (barCell (peer j c)) 0 j := by
    rw [bigSep_univ_equiv peerEquiv, bigSep_univ_prod]; rfl
  have ha : bigSep Finset.univ (fun c : Dev nD => bigSep Finset.univ fun p : Fin 4 => (dutyTok ER (cell c (.a p)) 0 0 : sProp 𝕄))
      = bigSep Finset.univ fun c : Dev nD => bigSep Finset.univ fun p : Fin 4 => dutyTok ER (cell (zp c) (.a p)) 0 0 :=
    bigSep_univ_equiv zpEquiv _
  have hb : bigSep Finset.univ (fun c : Dev nD => bigSep Finset.univ fun i : Fin 4 => (dutyTok ER (cell c (.b i)) 0 0 : sProp 𝕄))
      = bigSep Finset.univ fun c : Dev nD => bigSep Finset.univ fun e : Fin 2 × Fin 2 => dutyTok ER (cell (fpeer e.2 c) (.b (fwd c e.1))) 0 0 := by
    rw [← bigSep_univ_prod (fun e : Dev nD × Fin 4 => (dutyTok ER (cell e.1 (.b e.2)) 0 0 : sProp 𝕄)), bigSep_univ_equiv fwdEquiv, bigSep_univ_prod]; rfl
  have hslot (c : Dev nD) := bigSep_slot fun k => (dutyTok ER (cell c k) 0 0 : sProp 𝕄)
  unfold allToks purse
  rw [bigSep_union toks_disjoint, bigSep_map, bigSep_map]
  show iprop(bigSep Finset.univ (fun e : Dev nD × Fin 3 => (dutyTok ER (barCell e.1) 0 e.2 : sProp 𝕄))
    ∗ bigSep Finset.univ fun e : Dev nD × Slot => (dutyTok ER (cell e.1 e.2) 0 0 : sProp 𝕄)) ⊢ _
  rw [hbar, bigSep_univ_prod (fun e : Dev nD × Slot => (dutyTok ER (cell e.1 e.2) 0 0 : sProp 𝕄)), bigSep_congr fun c _ => hslot c]
  rw [bigSep_sep', bigSep_sep', bigSep_sep', ha, hb, bigSep_sep', bigSep_sep', bigSep_sep', bigSep_sep']
  iintro ⟨Hj, Hs, Hf, Ha, Hb⟩
  isplitl [Hj]; · iexact Hj
  isplitl [Hs Ha]; · isplitl [Hs] <;> iassumption
  isplitl [Hf] <;> iassumption

/-! ## Credits -/

theorem bar_eq (c c' : Dev nD) : barCell c = barCell c' ↔ c = c' := ⟨fun h => barEmb.injective h, fun h => by rw [h]⟩
theorem cell_eq (c c' : Dev nD) (k k' : Slot) : cell c k = cell c' k' ↔ c = c' ∧ k = k' :=
  ⟨fun h => Prod.mk.inj (cellEmb.injective (a₁ := (c, k)) (a₂ := (c', k')) h), fun ⟨h, h'⟩ => by rw [h, h']⟩

/-- One more payment outstanding is its amount more at its cell. -/
theorem owe_step (d : Dev nD) (n : ℕ) (g : GSem nD τ sig) :
    owe d (n + 1) g () = owe d n g () + if g = (due d n).1 then (due d n).2 else 0 := by
  show owe d n g () + tallyAt (due d n).1 () (due d n).2 g () = _
  rw [tallyAt_apply]
  by_cases h : g = (due d n).1
  · rw [if_pos ⟨h, rfl⟩, if_pos h]
  · rw [if_neg (fun e => h e.1), if_neg h]
theorem owe_zero (d : Dev nD) (g : GSem nD τ sig) : owe d 0 g () = 0 := rfl

theorem owe_bar (d c : Dev nD) : owe d 11 (barCell c) () = (if c = yp d then 1 else 0) + (if c = xp d then 1 else 0) + if c = zp d then 1 else 0 := by
  simp only [owe_step, owe_zero, due, bar_ne_cell, bar_eq, if_false, Nat.zero_add]
theorem owe_a (d c : Dev nD) (p : Fin 4) : owe d 11 (cell c (.a p)) () = if c = zp d then N else 0 := by
  have hn (c' : Dev nD) : cell c (.a p) ≠ barCell c' := (bar_ne_cell c' c (.a p)).symm
  simp only [owe_step, owe_zero, due, hn, cell_eq, if_false, Nat.zero_add, Nat.add_zero, reduceCtorEq, and_false, Slot.a.injEq]
  fin_cases p <;> simp
theorem owe_b (d c : Dev nD) (i : Fin 4) : owe d 11 (cell c (.b i)) ()
    = ((if c = yp d ∧ i = fwd d 1 then 1 else 0) + (if c = xp d ∧ i = fwd d 1 then 1 else 0) + (if c = yp d ∧ i = fwd d 0 then 1 else 0)
      + if c = xp d ∧ i = fwd d 0 then 1 else 0) * N := by
  have hn (c' : Dev nD) : cell c (.b i) ≠ barCell c' := (bar_ne_cell c' c (.b i)).symm
  simp only [owe_step, owe_zero, due, hn, cell_eq, if_false, Nat.zero_add, Nat.add_zero, reduceCtorEq, and_false, Slot.b.injEq, Nat.add_mul, ite_mul, Nat.one_mul, Nat.zero_mul]

/-- What all devices together owe a cell. -/
theorem total_bar (c : Dev nD) : ∑ d : Dev nD, owe d 11 (barCell c) () = 3 := by
  rw [Finset.sum_congr rfl fun d _ => owe_bar d c]
  revert c
  exact (by decide : ∀ c : Fin 8, ∑ d : Fin 8, ((if c = yp d then 1 else 0) + (if c = xp d then 1 else 0) + if c = zp d then 1 else 0) = 3)
theorem total_a (c : Dev nD) (p : Fin 4) : ∑ d : Dev nD, owe d 11 (cell c (.a p)) () = N := by
  rw [Finset.sum_congr rfl fun d _ => (owe_a d c p).trans (show _ = (if c = zp d then 1 else 0) * N by rw [ite_mul, Nat.one_mul, Nat.zero_mul]), ← Finset.sum_mul,
    (by decide : ∀ c : Fin 8, ∑ d : Fin 8, (if c = zp d then 1 else 0) = 1) c, Nat.one_mul]
theorem total_b (c : Dev nD) (i : Fin 4) : ∑ d : Dev nD, owe d 11 (cell c (.b i)) () = N := by
  rw [Finset.sum_congr rfl fun d _ => owe_b d c i, ← Finset.sum_mul,
    (by decide : ∀ (c : Fin 8) (i : Fin 4), ∑ d : Fin 8, ((if c = yp d ∧ i = fwd d 1 then 1 else 0) + (if c = xp d ∧ i = fwd d 1 then 1 else 0)
      + (if c = yp d ∧ i = fwd d 0 then 1 else 0) + if c = xp d ∧ i = fwd d 0 then 1 else 0) = 1) c i, Nat.one_mul]

abbrev O₀ (c : Dev nD) : CellTallies nD τ sig Unit := owe c 11

theorem launch_of (g : GSem nD τ sig) (n : ℕ) (h : g.1.2 = .tc) (hn : ∑ d : Dev nD, owe d 11 g () = n) :
    tallyOn g (launchCredit (Pipeline.owing O₀) 0 g) = (tallyAt g () n : CellTallies nD τ sig Unit) := by
  obtain ⟨⟨d, t⟩, sm⟩ := g
  subst h
  unfold tallyAt; refine congrArg _ (Finsupp.ext fun u => ?_); cases u
  rw [Pipeline.launchCredit_owing, Finsupp.single_eq_same]; exact hn

/-- The launch credit a device waits with. -/
theorem creds (c : Dev nD) :
    (Pipeline.launchCred O₀ c : sProp 𝕄) ⊢ iprop(cred (tallyAt (barCell c) () 3)
      ∗ (bigSep Finset.univ fun p : Fin 4 => cred (tallyAt (cell c (.a p)) () N)) ∗ bigSep Finset.univ fun i : Fin 4 => cred (tallyAt (cell c (.b i)) () N)) := by
  unfold Pipeline.launchCred
  rw [bigSep_univ_at _ (SemLoc.reg barS), launch_of (barCell c) 3 rfl (total_bar c)]
  refine sep_mono_right ?_
  have hsub : Finset.univ.map (⟨osem, own_sems.inj⟩ : Slot ↪ SemLoc sig) ⊆ Finset.univ.erase (SemLoc.reg barS) := fun x hx => by
    obtain ⟨k, -, rfl⟩ := Finset.mem_map.mp hx
    exact Finset.mem_erase.mpr ⟨dsem_ne_bar k, Finset.mem_univ _⟩
  refine (bigSep_subset hsub).trans ?_
  rw [bigSep_map, bigSep_slot]
  have ha : bigSep Finset.univ (fun p : Fin 4 => (cred (tallyOn (cell c (.a p)) (launchCredit (Pipeline.owing O₀) 0 (cell c (.a p)))) : sProp 𝕄))
      = bigSep Finset.univ fun p : Fin 4 => cred (tallyAt (cell c (.a p)) () N) :=
    bigSep_congr fun p _ => congrArg _ (launch_of (cell c (.a p)) N rfl (total_a c p))
  have hb : bigSep Finset.univ (fun i : Fin 4 => (cred (tallyOn (cell c (.b i)) (launchCredit (Pipeline.owing O₀) 0 (cell c (.b i)))) : sProp 𝕄))
      = bigSep Finset.univ fun i : Fin 4 => cred (tallyAt (cell c (.b i)) () N) :=
    bigSep_congr fun i _ => congrArg _ (launch_of (cell c (.b i)) N rfl (total_b c i))
  rw [← ha, ← hb]
  have drop (A B C : sProp 𝕄) : (iprop(A ∗ B ∗ C) : sProp 𝕄) ⊢ C := by
    iintro ⟨-, -, H⟩
    iexact H
  exact drop _ _ _

/-! ## The run -/

variable (m : (ℓ : Loc nD τ sig) → Buf (Elt F) ℓ) (ρ : Dev nD → PrngReg)

def u₀ : UU :=
  (initOf (Pipeline.cells (Pipeline.pin (pcfgs (F := F)) adm) cellOf_inj) (Pipeline.launchToks (Pipeline.pin (pcfgs (F := F)) adm) cellOf_inj),
    launchOf barCells xCells allToks)

/-- The cells' element, on one device until it is dealt. -/
def G (c : Dev nD) : sProp 𝕄 := if c = 0 then BI.own (ER (launchOf barCells xCells allToks)) else iprop(emp)
theorem G_eq : bigSep Finset.univ G = (BI.own (ER (launchOf barCells xCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c.tc : Thread nD τ) (Pipeline.ucRefs τ sig) (Vst m c) ∗ before m c)
abbrev Tₙ (c : Dev nD) : sProp 𝕄 := iprop(StableHlo.held (c.tc : Thread nD τ) (Pipeline.ucRefs τ sig) (Vend m c) ∗ semVal (barCell c) 0)

/-- What of a device's share of the launch is no ghost state of the cells. -/
def bundle (c : Dev nD) : sProp 𝕄 :=
  iprop(StableHlo.held (c.tc : Thread nD τ) (Pipeline.ucRefs τ sig) (Vst m c) ∗ (∃ r, prngReg c r) ∗ owing c 11
    ∗ cred (tallyAt (barCell c) () 3)
      ∗ (bigSep Finset.univ fun p : Fin 4 => cred (tallyAt (cell c (.a p)) () N)) ∗ bigSep Finset.univ fun i : Fin 4 => cred (tallyAt (cell c (.b i)) () N))

/-- The records every device may consult. -/
def records (K : GSem nD τ sig → ℕ) : sProp 𝕄 := iprop(recs (ksOf m) (vsOf m) K ∗ bigSep barCells fun g => reached ER g 0)
instance records_persistent (K : GSem nD τ sig → ℕ) : BI.Persistent (records m K) := by unfold records; infer_instance

theorem reached_bar (c : Dev nD) : (bigSep barCells fun g => (reached ER g 0 : sProp 𝕄)) ⊢ reached ER (barCell c) 0 :=
  bigSep_elim (Finset.mem_map_of_mem barEmb (Finset.mem_univ c))

theorem T₀_intro (K : GSem nD τ sig → ℕ) (c : Dev nD) :
    iprop(records m K ∗ ((atPos ER (barCell c) 0 ∅ 0 ∗ (bigSep Finset.univ fun k : Slot => openTok ER (cell c k)) ∗ purse c) ∗ bundle m c)) ⊢ T₀ m c := by
  unfold records bundle T₀ before dealt0 purse
  iintro ⟨⟨#HR, #Hre⟩, ⟨Hat, Ho, Hj, HA, HF⟩, Hh, Hp, HO, Hcb, Hca⟩
  isplitl [Hh]; · iexact Hh
  isplitr [Hp HO]
  · iexists K
    isplitr; · iexact HR
    isplitl [Hat Hcb]; · isplitl [Hcb] <;> iassumption
    isplitl [Hj]
    · unfold ring
      iapply (Entails.of_eq (bigSep_sep' _ _ _).symm)
      isplitl [Hj]; · iexact Hj
      rw [bigSep3]
      isplitr; · iapply (reached_bar (F := F) (peer 0 c)); iexact Hre
      isplitr; · iapply (reached_bar (F := F) (peer 1 c)); iexact Hre
      iapply (reached_bar (F := F) (peer 2 c)); iexact Hre
    isplitl [HA]; · iexact HA
    isplitl [HF]; · iexact HF
    isplitl [Ho]; · iexact Ho
    iexact Hca
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c.tc : Thread nD τ) (Pipeline.ucRefs τ sig) (Vst m c) from
        Pipeline.unscopedBufs_held c (Vst m c), unscopedSems0_eq]
    unfold bundle owing
    iintro ⟨Hh, Hus, HO, Hcr, Hp, HG⟩
    ihave Hc := (creds (F := F) c) $$ Hcr
    isplitl [Hh Hc HO Hp]
    · isplitl [Hh]; · iexact Hh
      isplitl [Hp]; · iexists (ρ c); iexact Hp
      isplitl [HO]; · iexists ∅; iexact HO
      iexact Hc
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep xCells (fun g => (openTok ER g : sProp 𝕄))
      ⊢ bigSep Finset.univ (fun c : Dev nD => bigSep Finset.univ fun k : Slot => openTok ER (cell c k)) :=
    Entails.of_eq (by unfold xCells; rw [bigSep_map, bigSep_univ_prod]; rfl)
  refine (sep_elim_left.trans (bigSep_mono fun c _ => hcore c)).trans ?_
  iintro H'
  ihave H2 := (Entails.of_eq (bigSep_sep' Finset.univ (bundle m) fun c => iprop(semVal (barCell c) 0 ∗ G c))) $$ H'
  icases H2 with ⟨HB, H3⟩
  ihave H4 := (Entails.of_eq (bigSep_sep' Finset.univ (fun c => semVal (barCell c) 0) G)) $$ H3
  icases H4 with ⟨Hv, HG⟩
  ihave Hu := (Entails.of_eq (G_eq (F := F))) $$ HG
  imod (Rounds.fund_launch ER (rd (ksOf m) (vsOf m)) cells_disjoint (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop((atPos ER (barCell c) 0 ∅ 0
    ∗ (bigSep Finset.univ fun k : Slot => openTok ER (cell c k)) ∗ purse c) ∗ bundle m c)) fun c _ => T₀_intro m K c)
  isplitr
  · unfold records recs
    isplitr; · iexact Hinv
    iexact Hr
  rw [bigSep_sep', bigSep_sep', bigSep_sep']
  isplitr [HB]
  · isplitl [Hat]; · iapply hat $$ Hat
    isplitl [Hopen]; · iapply hop $$ Hopen
    iapply (toks_dealt (F := F)) $$ Htok
  · iexact HB

/-- The buffers the claims speak of. -/
abbrev read4 : Finset (DevRef τ sig) :=
  {Proc.devRef .tc main_arg0, Proc.devRef .tc main_arg1, Proc.devRef .tc main_arg2, Proc.devRef .tc main_v11}
theorem read4_sub : read4 ⊆ Pipeline.ucRefs τ sig := by decide

theorem read4_eq (c : Dev nD) (W : Valuation τ sig (Elt F)) : (StableHlo.held (c.tc : Thread nD τ) read4 W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_v11) ↦{fullShare} W main_v11)) := by
  unfold StableHlo.held read4
  rw [bigSep_insert (by decide), bigSep_insert (by decide), bigSep_insert (by decide), bigSep_singleton]; rfl

/-- The arguments end as they began. -/
theorem Vend_keeps (c : Dev nD) (b : Ref sig .tc) (h : b = main_arg0 ∨ b = main_arg1 ∨ b = main_arg2) : Vend m c b = m ((c : Thread nD τ).loc b) := by
  have h1 : Vend m c b = Vin m c b := by
    refine (StableHlo.after_of_forall_not_mem (b := Proc.devRef .tc b) _ _ (List.forall_iff_forall_mem.mp ?_)).trans
      (Function.update_of_ne (by rcases h with rfl | rfl | rfl <;> decide) _ _)
    simp only [hostOps1, List.Forall, StableHlo.unary_writes, StableHlo.reshape_writes, Finset.mem_singleton]
    rcases h with rfl | rfl | rfl <;> exact ⟨StableHlo.devRef_ne_of_ne (by decide), StableHlo.devRef_ne_of_ne (by decide)⟩
  rw [h1]
  rcases h with rfl | rfl | rfl
  · exact V_main_arg0 m c
  · exact V_main_arg1 m c
  · exact V_main_arg2 m c

theorem unscoped_eq : ∀ sm : SemLoc sig, sm.isScoped .tc = false → sm = .reg barS := by decide

set_option backward.isDefEq.respectTransparency.types false in
/-- Every run ends: the arguments unchanged, the result as the last reshapings leave it, every counter back at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v11) = Vend m c main_v11) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := by
      refine ⟨fun c => .rfl, fun c => seg0_reg0 m c, fun c => reg0_seg1 m c, fun c => ?_⟩
      show iprop(StableHlo.held (c.tc : Thread nD τ) (Pipeline.ucRefs τ sig) (Vend m c) ∗ after c)
        ⊢ iprop(Tₙ m c ∗ ∃ W, owes (c : Thread nD τ) (0 : CellTallies nD τ sig Unit) W)
      unfold after owing
      iintro ⟨Hh, Hb, HO⟩
      isplitr [HO]
      · isplitl [Hh] <;> iassumption
      · iexact HO)
    (hinit := init m ρ)
    (QY := fun c s => (s.mem ((c : Thread nD τ).loc main_arg0) = Vend m c main_arg0 ∧ s.mem ((c : Thread nD τ).loc main_arg1) = Vend m c main_arg1
      ∧ s.mem ((c : Thread nD τ).loc main_arg2) = Vend m c main_arg2 ∧ s.mem ((c : Thread nD τ).loc main_v11) = Vend m c main_v11) ∧ s.sem (barCell c) = 0)
    (hfin := fun c s' => by
      dsimp only [Tₙ]; rw [StableHlo.held_sub_split (c.tc : Thread nD τ) read4_sub (Vend m c), read4_eq]
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h0.trans (Vend_keeps m c _ (.inl rfl)), h1.trans (Vend_keeps m c _ (.inr (.inl rfl))), h2.trans (Vend_keeps m c _ (.inr (.inr rfl))), h3⟩,
      sem_eq_zero hs fun c sm hsm => by
        obtain rfl := unscoped_eq sm hsm
        exact (h c).2⟩)

end Cert.Kernel.Attn

end
-- ==== Proof.Transport.lean ====
/-
  The idealized kernel is the kernel's own text read at the ideal instance, so its runs are the kernel's.
-/
module

public import proofs.«01_k».proof.Proof.Launch
public import proofs.«01_k».proof.KernelIdeal
public import proofs.«01_k».proof.Proof.Gen.KernelIdeal
public import Idealize.ShloMosaic.PureOps.Ideal

@[expose] public section

noncomputable section

namespace Cert.Kernel.Attn

open Idealize.ShloMosaic Idealize.ShloMosaic.TcCoe Idealize.SL.Sem

attribute [local instance] Cert.Kernel.Gen.facts Cert.KernelIdeal.Gen.facts

set_option maxRecDepth 100000 in
theorem ideal_body : (Cert.KernelIdeal.cc0_body (F := Ideal)) = (Cert.Kernel.cc0_body (F := Ideal)) := rfl

set_option maxRecDepth 100000 in
theorem ideal_cfgs : (Cert.KernelIdeal.pcfgs (F := Ideal)) = (Cert.Kernel.pcfgs (F := Ideal)) := rfl

set_option maxRecDepth 100000 in
theorem ideal_defs₀ : (Cert.KernelIdeal.defs₀ (F := Ideal)) = (Cert.Kernel.defs₀ (F := Ideal)) := by
  unfold Cert.KernelIdeal.defs₀ Cert.Kernel.defs₀
  congr 1
  funext l a
  match l, a with
  | 0, (t, s) => exact congrFun (congrFun (congrFun (congrFun (congrFun (congrFun (congrFun (congrFun (congrFun (congrFun (congrFun (congrFun (congrFun (congrFun ideal_body _) _) _) _) _) _) _) _) _) _) _) _) _) _

set_option maxRecDepth 100000 in
theorem ideal_main : (Cert.KernelIdeal.main (F := Ideal)) = (Cert.Kernel.main (F := Ideal)) := by with_unfolding_all rfl

set_option maxRecDepth 100000 in
theorem ideal_defs : (Cert.KernelIdeal.defs (F := Ideal)) = (Cert.Kernel.defs (F := Ideal)) := by
  unfold Cert.KernelIdeal.defs Cert.Kernel.defs
  rw [ideal_defs₀]
  rfl

set_option maxRecDepth 100000 in
/-- Every run of the idealized kernel ends: arguments unchanged, the result as the kernel's at the ideal instance, every
    counter back at zero. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_v11) = Vend (F := Ideal) m c Cert.Kernel.main_v11)
        ∧ r.2.sem = fun _ => 0) := by
  rw [ideal_main, ideal_defs]
  exact run_main (F := Ideal) m g

end Cert.Kernel.Attn

end
-- ==== Proof.Value.lean ====
module
public import proofs.«01_k».proof.Proof.Transport
public import Idealize.ShloMosaic.Lib.Pointwise
/-! What the kernel computes, read entry by entry in terms of the whole queries, keys and values. -/
@[expose] public section
noncomputable section
namespace Cert.Kernel.Attn
open Idealize.ShloMosaic Idealize.ShloMosaic.TcCoe
open Cert.Kernel Cert.Kernel.Gen Cert.Mesh

/-- The kernel's factor on the queries is one eighth. -/
theorem eighth_bf16 : Ideal.ofBits .bf16 0x3E00#16 = (((1 : ℝ) / 8 : ℝ) : EReal) := by
  simp [Ideal.ofBits, Ideal.ieee, -EReal.coe_mul]; norm_num

/-- The whole sequence, over both halves. -/
abbrev W4 : Shape := ⟨4, ![2, 512, 8, 64]⟩

/-- Row `r` of half `z`, as a row of the whole sequence. -/
def row (z : Fin 2) (r : Fin 256) : Fin 512 := ⟨256 * z.val + r.val, by omega⟩

/-- The half of the sequence that a device holds. -/
def zz (c : Fin 8) : Fin 2 := ⟨c.val % 2, by omega⟩

/-- The half that a device has to fetch. -/
def oz (c : Fin 8) : Fin 2 := zz (zp c)

/-- The batch entry of a merged batch-and-head index. -/
def hi (a : Fin 16) : Fin 2 := ⟨a.val / 8, by omega⟩

/-- The head of a merged batch-and-head index. -/
def lo (a : Fin 16) : Fin 8 := ⟨a.val % 8, by omega⟩

/-- A device's block of a whole tensor. -/
def blk (c : Fin 8) (X : W4.Idx → EReal) : S2x256x8x64.Idx → EReal :=
  Layout.blockN ⟨4, ![2, 256, 8, 64]⟩ ⟨4, ![2, 512, 8, 64]⟩
    (Layout.meshBlock [2, 2, 2] ![[], [2], [], []] c) X

/-- A device's block of a whole tensor is its half of the rows. -/
theorem block_apply (X : W4.Idx → EReal) (c : Fin 8) (b : Fin 2) (s : Fin 256) (h : Fin 8)
    (d : Fin 64) :
    blk c X (ix4 b s h d) = X (ix4 b (row (zz c) s) h d) := by
  unfold blk
  rw [Layout.blockN_apply]
  refine congrArg X (funext fun x => Fin.ext ?_)
  rw [Layout.TilesN.idx_val, Layout.meshBlock_val]
  revert c
  fin_cases x
  all_goals intro c
  · fin_cases c <;> simp [Layout.meshLin, ix4]
  · fin_cases c <;> simp [Layout.meshLin, Layout.meshCoord, Layout.cutSize, ix4, row, zz]
  · fin_cases c <;> simp [Layout.meshLin, ix4]
  · fin_cases c <;> simp [Layout.meshLin, ix4]

/-- Half `z` of a whole tensor, with batch and head merged, as the kernel lays it out. -/
def half (X : W4.Idx → EReal) (z : Fin 2) : Tns Ideal :=
  fun i => X (ix4 (hi (i 0)) (row z (i 1)) (lo (i 0)) (i 2))

theorem half_apply (X : W4.Idx → EReal) (z : Fin 2) (a : Fin 16) (r : Fin 256) (d : Fin 64) :
    half X z (ix3 a r d) = X (ix4 (hi a) (row z r) (lo a) d) := rfl

/-- A face neighbour reached for a chunk has the half of the device itself. -/
theorem zz_fpeer (w : Fin 2) (c : Fin 8) : zz (fpeer w c) = zz c := by
  revert w c; decide

theorem zz_zp_fpeer (w : Fin 2) (c : Fin 8) : zz (zp (fpeer w c)) = oz c := by
  revert w c; decide

section
variable (K V : Fin 2 → Tns Ideal) (c : Fin 8)

theorem src_zz : src (fun c => K (zz c)) (fun c => V (zz c)) c = if kk c then K (zz c) else V (zz c) := rfl

/-- The first buffer has what the other half's device sends first. -/
theorem gotA_zz : gotA (fun c => K (zz c)) (fun c => V (zz c)) c
    = if kk c then K (oz c) else V (oz c) := by
  rw [gotA, src_zz, kk_zp, oz]

/-- The second buffer has the other tensor of the same half, whichever neighbour forwarded a chunk. -/
theorem gotB_zz : gotB (fun c => K (zz c)) (fun c => V (zz c)) c
    = if kk c then V (oz c) else K (oz c) := by
  funext x
  rw [gotB, gotA_zz, fsrc, kk_fpeer, oz, zz_zp_fpeer]
  cases kk c <;> rfl

/-- Fetching is right: each device ends with the other half of the keys. -/
theorem kr_eq : krOf (fun c => K (zz c)) (fun c => V (zz c)) c = K (oz c) := by
  rw [krOf, gotA_zz, gotB_zz]
  cases kk c <;> rfl

/-- Fetching is right: each device ends with the other half of the values. -/
theorem vr_eq : vrOf (fun c => K (zz c)) (fun c => V (zz c)) c = V (oz c) := by
  rw [vrOf, gotA_zz, gotB_zz]
  cases kk c <;> rfl

end

variable (m : (ℓ : Loc nD τ sig) → Buf (Elt Ideal) ℓ)

/-- The queries the kernel call gets: an eighth of the device's block. -/
theorem qs_apply (c : Dev nD) (a : Fin 16) (r : Fin 256) (d : Fin 64) :
    qsOf m c (ix3 a r d)
      = HMul.hMul (α := EReal) (m ((c.tc : Thread nD τ).loc main_arg0) (ix4 (hi a) r (lo a) d))
        (((1 : ℝ) / 8 : ℝ) : EReal) := by
  have h : qsOf m c = shapeCast S16x256x64 (transpose S2x8x256x64 [0, 2, 1, 3]
      (mulf (F := Ideal) (φ := .bf16) (m ((c.tc : Thread nD τ).loc main_arg0))
        (broadcastInDim S2x256x8x64 ![] bcast_S_S2x256x8x64 (constant S_ .bf16 0x3E00#16)))
      transposes_S2x256x8x64_S2x8x256x64_0_2_1_3) shapeCasts_S2x8x256x64_S16x256x64 := by
    unfold qsOf Vin hostOps0
    after_results
    rfl
  rw [h, ← eighth_bf16]
  pointwise
  rfl

/-- The keys the kernel call gets are the device's block. -/
theorem ks_apply (c : Dev nD) (a : Fin 16) (r : Fin 256) (d : Fin 64) :
    ksOf m c (ix3 a r d)
      = (m ((c.tc : Thread nD τ).loc main_arg1) : S2x256x8x64.Idx → EReal)
          (ix4 (hi a) r (lo a) d) := by
  have h : ksOf m c = shapeCast S16x256x64 (transpose S2x8x256x64 [0, 2, 1, 3]
      (m ((c.tc : Thread nD τ).loc main_arg1))
      transposes_S2x256x8x64_S2x8x256x64_0_2_1_3) shapeCasts_S2x8x256x64_S16x256x64 := by
    unfold ksOf Vin hostOps0
    after_results
    rfl
  rw [h]
  pointwise
  rfl

/-- The values the kernel call gets are the device's block. -/
theorem vs_apply (c : Dev nD) (a : Fin 16) (r : Fin 256) (d : Fin 64) :
    vsOf m c (ix3 a r d)
      = (m ((c.tc : Thread nD τ).loc main_arg2) : S2x256x8x64.Idx → EReal)
          (ix4 (hi a) r (lo a) d) := by
  have h : vsOf m c = shapeCast S16x256x64 (transpose S2x8x256x64 [0, 2, 1, 3]
      (m ((c.tc : Thread nD τ).loc main_arg2))
      transposes_S2x256x8x64_S2x8x256x64_0_2_1_3) shapeCasts_S2x8x256x64_S16x256x64 := by
    unfold vsOf Vin hostOps0
    after_results
    rfl
  rw [h]
  pointwise
  rfl

/-- The merged index of a batch entry and a head. -/
def bh (b : Fin 2) (h : Fin 8) : Fin 16 := ⟨b.val * 8 + h.val, by omega⟩

theorem hi_bh (b : Fin 2) (h : Fin 8) : hi (bh b h) = b := Fin.ext (by simp only [hi, bh]; omega)

theorem lo_bh (b : Fin 2) (h : Fin 8) : lo (bh b h) = h := Fin.ext (by simp only [lo, bh]; omega)

/-- The result is the kernel call's output with batch and head apart again. -/
theorem end_apply (c : Dev nD) (b : Fin 2) (s : Fin 256) (h : Fin 8) (d : Fin 64) :
    (Vend m c main_v11 : S2x256x8x64.Idx → EReal) (ix4 b s h d)
      = (outM m c : S16x256x64.Idx → EReal) (ix3 (bh b h) s d) := by
  have e : Vend m c main_v11 = transpose S2x256x8x64 [0, 2, 1, 3]
      (shapeCast S2x8x256x64 (outM m c) shapeCasts_S16x256x64_S2x8x256x64)
      transposes_S2x8x256x64_S2x256x8x64_0_2_1_3 := by
    unfold Vend hostOps1
    after_results
    rfl
  rw [e]
  pointwise
  rfl

/-- The arithmetic of the kernel at one entry: two unnormalised halves, then one division. -/
theorem out_apply (ks vs : Dev nD → Tns Ideal) (c : Dev nD) (fq : Tns Ideal) (a : Fin 16)
    (r : Fin 256) (d : Fin 64) :
    (outOf ks vs c fq : S16x256x64.Idx → EReal) (ix3 a r d) =
      (∑ x, Ideal.exp (∑ y, fq (ix3 a r y) * ks c (ix3 a x y)) * vs c (ix3 a x d)
        + ∑ x, Ideal.exp (∑ y, fq (ix3 a r y) * krOf ks vs c (ix3 a x y))
            * vrOf ks vs c (ix3 a x d))
      * Ideal.div 1 (∑ x, Ideal.exp (∑ y, fq (ix3 a r y) * ks c (ix3 a x y))
        + ∑ x, Ideal.exp (∑ y, fq (ix3 a r y) * krOf ks vs c (ix3 a x y))) := by
  pointwise [outOf, k0_pay1, k0_pay2, k0_pay3, k0_pay4, k0_pay5]

/-- A sum over the whole sequence is the sum over a device's half and over the other half. -/
theorem sum_halves (f : Fin 512 → EReal) (c : Fin 8) :
    ∑ x, f (row (zz c) x) + ∑ x, f (row (oz c) x) = ∑ x, f x := by
  have h : ∑ x, f (row 0 x) + ∑ x, f (row 1 x) = ∑ x, f x :=
    (Fin.sum_univ_add (a := 256) (b := 256) f).symm
  have hz : (zz c = 0 ∧ oz c = 1) ∨ (zz c = 1 ∧ oz c = 0) := by revert c; decide
  rcases hz with ⟨h0, h1⟩ | ⟨h0, h1⟩
  · rw [h0, h1, h]
  · rw [h0, h1, add_comm, h]

/-- The memories hold the devices' blocks of three whole tensors. -/
structure Blocks (Q K V : W4.Idx → EReal) : Prop where
  q : ∀ c : Dev nD, (m ((c.tc : Thread nD τ).loc main_arg0) : S2x256x8x64.Idx → EReal)
    = blk c Q
  k : ∀ c : Dev nD, (m ((c.tc : Thread nD τ).loc main_arg1) : S2x256x8x64.Idx → EReal)
    = blk c K
  v : ∀ c : Dev nD, (m ((c.tc : Thread nD τ).loc main_arg2) : S2x256x8x64.Idx → EReal)
    = blk c V

variable {m}

theorem Blocks.ks_eq {Q K V : W4.Idx → EReal} (B : Blocks m Q K V) :
    ksOf m = fun c => half K (zz c) := by
  funext c i
  obtain ⟨a, r, d, rfl⟩ : ∃ a r d, i = ix3 a r d := ⟨i 0, i 1, i 2, by funext x; fin_cases x <;> rfl⟩
  rw [ks_apply, B.k, block_apply, half_apply]

theorem Blocks.vs_eq {Q K V : W4.Idx → EReal} (B : Blocks m Q K V) :
    vsOf m = fun c => half V (zz c) := by
  funext c i
  obtain ⟨a, r, d, rfl⟩ : ∃ a r d, i = ix3 a r d := ⟨i 0, i 1, i 2, by funext x; fin_cases x <;> rfl⟩
  rw [vs_apply, B.v, block_apply, half_apply]

/-- The kernel's result over the whole sequence: exponentials of the scores, not shifted, with one
division at the end. -/
theorem Blocks.result {Q K V : W4.Idx → EReal} (B : Blocks m Q K V) (c : Dev nD) (b : Fin 2)
    (s : Fin 256) (h : Fin 8) (d : Fin 64) :
    (Vend m c main_v11 : S2x256x8x64.Idx → EReal) (ix4 b s h d) =
      (∑ t, Ideal.exp (∑ y, Q (ix4 b (row (zz c) s) h y) * (((1 : ℝ) / 8 : ℝ) : EReal)
          * K (ix4 b t h y)) * V (ix4 b t h d))
      * Ideal.div 1 (∑ t, Ideal.exp (∑ y, Q (ix4 b (row (zz c) s) h y)
          * (((1 : ℝ) / 8 : ℝ) : EReal) * K (ix4 b t h y))) := by
  rw [end_apply, outM, out_apply, B.ks_eq, B.vs_eq, kr_eq (half K) (half V),
    vr_eq (half K) (half V)]
  simp only [qs_apply, B.q, block_apply, half_apply, hi_bh, lo_bh]
  rw [sum_halves (fun t => Ideal.exp (∑ y, Q (ix4 b (row (zz c) s) h y)
      * (((1 : ℝ) / 8 : ℝ) : EReal) * K (ix4 b t h y)) * V (ix4 b t h d)),
    sum_halves (fun t => Ideal.exp (∑ y, Q (ix4 b (row (zz c) s) h y)
      * (((1 : ℝ) / 8 : ℝ) : EReal) * K (ix4 b t h y)))]

end Cert.Kernel.Attn
end
-- ==== Proof.Softmax.lean ====
/-
  The algebra of the two attentions over the extended reals: real scores, any values. Dividing the weighted sum by the sum
  of the exponentials is summing the values with the weights of the exponentials shifted by any real number.
-/
module

public import Idealize.ShloMosaic.PureOps.Ideal

@[expose] public section

noncomputable section

namespace Cert.Softmax

open Idealize.ShloMosaic

theorem exp_real (r : ℝ) : Ideal.exp (r : EReal) = (Real.exp r : EReal) := rfl

/-- A finite sum of reals, taken among the extended reals. -/
theorem sum_real {ι : Type} (t : Finset ι) (f : ι → ℝ) : ∑ k ∈ t, (f k : EReal) = ((∑ k ∈ t, f k : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- A quotient by a real other than zero. -/
theorem div_real (a b : ℝ) (hb : b ≠ 0) : Ideal.div (a : EReal) (b : EReal) = ((a / b : ℝ) : EReal) := by
  unfold Ideal.div
  rw [if_neg (by rwa [EReal.coe_eq_zero]), div_eq_mul_inv, EReal.coe_mul, EReal.coe_inv]

/-- A nonnegative real factor goes into a sum of any extended reals. -/
theorem sum_mul_real {ι : Type} (t : Finset ι) (f : ι → EReal) (r : ℝ) (hr : 0 ≤ r) : (∑ k ∈ t, f k) * (r : EReal) = ∑ k ∈ t, f k * (r : EReal) := by
  classical
  induction t using Finset.induction_on with
  | empty => rw [Finset.sum_empty, Finset.sum_empty, zero_mul]
  | insert a t ha ih =>
    rw [Finset.sum_insert ha, Finset.sum_insert ha, ← ih, EReal.right_distrib_of_nonneg_of_ne_top (EReal.coe_nonneg.mpr hr) (EReal.coe_ne_top r)]

variable {ι : Type} [Fintype ι] [Nonempty ι]

/-- The largest of finitely many reals is a real. -/
theorem max_real (s : ι → ℝ) : ∃ M : ℝ, Finset.univ.fold max (⊥ : EReal) (fun k => (s k : EReal)) = M := by
  obtain ⟨k, -, hk⟩ := Finset.exists_mem_eq_sup Finset.univ Finset.univ_nonempty fun k => (s k : EReal)
  exact ⟨s k, hk⟩

theorem softmax (s : ι → ℝ) (M : ℝ) (v : ι → EReal) :
    (∑ k, Ideal.exp (s k : EReal) * v k) * Ideal.div 1 (∑ k, Ideal.exp (s k : EReal))
      = ∑ k, v k * Ideal.div (Ideal.exp ((s k : EReal) - (M : EReal))) (∑ k', Ideal.exp ((s k' : EReal) - (M : EReal))) := by
  have hL : 0 < ∑ k, Real.exp (s k) := Finset.sum_pos (fun k _ => Real.exp_pos _) Finset.univ_nonempty
  have hM : ∑ k, Real.exp (s k - M) = (∑ k, Real.exp (s k)) * Real.exp (-M) := by
    rw [Finset.sum_mul]; exact Finset.sum_congr rfl fun k _ => by rw [← Real.exp_add, sub_eq_add_neg]
  simp only [← EReal.coe_sub, exp_real, sum_real]
  rw [hM, ← EReal.coe_one, div_real _ _ hL.ne', sum_mul_real _ _ _ (by positivity)]
  refine Finset.sum_congr rfl fun k _ => ?_
  rw [div_real _ _ (mul_pos hL (Real.exp_pos _)).ne', mul_comm _ (v k), mul_assoc, ← EReal.coe_mul, sub_eq_add_neg, Real.exp_add,
    mul_div_mul_right _ _ (Real.exp_pos _).ne', mul_one_div]

end Cert.Softmax

end
-- ==== Proof.Compare.lean ====
module
public import proofs.«01_k».proof.Proof.Value
public import proofs.«01_k».proof.Proof.Softmax
public import proofs.«01_k».proof.Proof.Gen.ReferenceIdeal.Run
public import proofs.«01_k».proof.Proof.Gen.Pre_finite_KernelIdeal
/-! The reference read entry by entry, and the two sides compared. -/
@[expose] public section
noncomputable section
open Idealize.ShloMosaic Idealize.ShloMosaic.TcCoe

namespace Cert.ReferenceIdeal.Value
open Cert.ReferenceIdeal Cert.ReferenceIdeal.Gen StableHlo

/-- The reference's result as a function of its arguments. -/
def refOut (q k v : FVec Ideal S2x512x8x64 .bf16) : FVec Ideal S2x512x8x64 .f32 :=
  have s : FVec Ideal S2x8x512x512 .f32 := mulf (Host.dotGeneral dot_S2x512x8x64_S2x512x8x64_S2x8x512x512_3_3_1_1_02_02 none (extf .f32 q bitsLt_bf16_f32) (extf .f32 k bitsLt_bf16_f32)) (broadcastInDim S2x8x512x512 ![] bcast_S_S2x8x512x512 (constant S_ .f32 0x3E000000#32))
  have e : FVec Ideal S2x8x512x512 .f32 := Host.exp (subf s (broadcastInDim S2x8x512x512 ![0, 1, 2, 3] bcast_S2x8x512x1_S2x8x512x512_0_1_2_3 (broadcastInDim S2x8x512x1 ![0, 1, 2] bcast_S2x8x512_S2x8x512x1_0_1_2 (Host.reduce FloatOps.maximumf s (constant S_ .f32 0xFF800000#32) reducesTo_S2x8x512x512_S2x8x512_d3 h_S_))))
  transpose S2x512x8x64 [0, 3, 1, 2] (Host.dotGeneral dot_S2x512x8x64_S2x8x512x512_S2x8x64x512_1_3_3_2_02_01 none (extf .f32 v bitsLt_bf16_f32) (Host.divf e (broadcastInDim S2x8x512x512 ![0, 1, 2, 3] bcast_S2x8x512x1_S2x8x512x512_0_1_2_3 (broadcastInDim S2x8x512x1 ![0, 1, 2] bcast_S2x8x512_S2x8x512x1_0_1_2 (Host.reduceAdd e (constant S_ .f32 0x00000000#32) reducesTo_S2x8x512x512_S2x8x512_d3 h_S_))))) transposes_S2x8x64x512_S2x512x8x64_0_3_1_2

theorem eighth_f32 : Ideal.ofBits .f32 0x3E000000#32 = (((1 : ℝ) / 8 : ℝ) : EReal) := by
  simp [Ideal.ofBits, Ideal.ieee, -EReal.coe_mul]; norm_num

theorem bot_f32 : Ideal.ofBits .f32 0xFF800000#32 = ⊥ := by
  simp [Ideal.ofBits, Ideal.ieee]

/-- The reference at one entry: a softmax with the row's maximum taken off, times the values. -/
theorem ref_apply (q k v : FVec Ideal S2x512x8x64 .bf16) (b : Fin 2) (s : Fin 512) (h : Fin 8)
    (d : Fin 64) (g : Fin 512 → EReal)
    (hg : ∀ x, g x = (∑ y, q (ix4 b s h y) * k (ix4 b x h y)) * (((1 : ℝ) / 8 : ℝ) : EReal)) :
    refOut q k v (ix4 b s h d) =
      ∑ x, v (ix4 b x h d) * Ideal.div (Ideal.exp (g x - Finset.univ.fold max ⊥ g))
        (∑ x, Ideal.exp (g x - Finset.univ.fold max ⊥ g)) := by
  obtain rfl : g = _ := funext hg
  rw [← eighth_f32, ← bot_f32]
  pointwise [refOut]

end Cert.ReferenceIdeal.Value

namespace Cert.Kernel.Attn
open Cert.Kernel Cert.Kernel.Gen Cert.Mesh

/-- Real queries and keys make the kernel's result the reference's, at every entry. -/
theorem Blocks.agree {m : (ℓ : Loc nD τ sig) → Buf (Elt Ideal) ℓ} {Q K V : W4.Idx → EReal}
    (B : Blocks m Q K V) (q k : W4.Idx → ℝ) (hq : ∀ i, Q i = (q i : EReal))
    (hk : ∀ i, K i = (k i : EReal)) (c : Dev nD) :
    (Vend m c main_v11 : S2x256x8x64.Idx → EReal)
      = blk c (Cert.ReferenceIdeal.Value.refOut Q K V) := by
  funext i
  obtain ⟨b, s, h, d, rfl⟩ : ∃ b s h d, i = ix4 b s h d :=
    ⟨i 0, i 1, i 2, i 3, by funext x; fin_cases x <;> rfl⟩
  obtain ⟨M, hM⟩ := Cert.Softmax.max_real
    fun t => ∑ y, q (ix4 b (row (zz c) s) h y) * (1 / 8) * k (ix4 b t h y)
  rw [block_apply, Cert.ReferenceIdeal.Value.ref_apply Q K V b (row (zz c) s) h d
    (fun t => ((∑ y, q (ix4 b (row (zz c) s) h y) * (1 / 8) * k (ix4 b t h y) : ℝ) : EReal)), hM,
    B.result]
  · simp only [hq, hk, ← EReal.coe_mul, Cert.Softmax.sum_real]
    exact Cert.Softmax.softmax _ M _
  · intro t
    simp only [hq, hk, ← EReal.coe_mul, Cert.Softmax.sum_real, Finset.sum_mul]
    exact congrArg _ (Finset.sum_congr rfl fun y _ => by ring)

theorem top_bf16 : Ideal.ofBits .bf16 0x7F80#16 = ⊤ := by
  simp [Ideal.ofBits, Ideal.ieee]

/-- An entry that passes the test of the precondition is a real number. -/
theorem real_of_lt (x : EReal) (h : max x (-x) < ⊤) : ∃ r : ℝ, x = r := by
  induction x with
  | bot => simp at h
  | top => simp at h
  | coe r => exact ⟨r, rfl⟩

theorem true_of_ofBool (b : Bool) (h : BitVec.ofBool b = 1#1) : b = true := by
  revert b; decide

theorem finite_fst (x y z : S2x256x8x64.Idx → EReal)
    (h : (Cert.Pre_finite_KernelIdeal.fn (F := Ideal) x y z).1 = fun _ => 1#1)
    (b : Fin 2) (s : Fin 256) (j : Fin 8) (d : Fin 64) : ∃ r : ℝ, x (ix4 b s j d) = r := by
  have e := congrFun h (ix4 b s j d)
  pointwise [Cert.Pre_finite_KernelIdeal.fn] at e
  rw [top_bf16] at e
  exact real_of_lt _ (of_decide_eq_true (true_of_ofBool _ e))

theorem finite_snd (x y z : S2x256x8x64.Idx → EReal)
    (h : (Cert.Pre_finite_KernelIdeal.fn (F := Ideal) x y z).2 = fun _ => 1#1)
    (b : Fin 2) (s : Fin 256) (j : Fin 8) (d : Fin 64) : ∃ r : ℝ, y (ix4 b s j d) = r := by
  have e := congrFun h (ix4 b s j d)
  pointwise [Cert.Pre_finite_KernelIdeal.fn] at e
  rw [top_bf16] at e
  exact real_of_lt _ (of_decide_eq_true (true_of_ofBool _ e))

/-- A whole tensor is real when every device's block of it is. -/
theorem real_of_blk (X : W4.Idx → EReal)
    (h : ∀ (c : Fin 8) b s j d, ∃ r : ℝ, blk c X (ix4 b s j d) = r) :
    ∃ f : W4.Idx → ℝ, ∀ i, X i = (f i : EReal) := by
  have H : ∀ i : W4.Idx, ∃ r : ℝ, X i = r := by
    intro i
    obtain ⟨b, s, j, d, rfl⟩ : ∃ (b : Fin 2) (s : Fin 512) (j : Fin 8) (d : Fin 64),
        i = ix4 b s j d := ⟨i 0, i 1, i 2, i 3, by funext x; fin_cases x <;> rfl⟩
    obtain ⟨r, hr⟩ := h ⟨s.val / 256, by omega⟩ b ⟨s.val % 256, by omega⟩ j d
    refine ⟨r, ?_⟩
    rw [← hr, block_apply]
    refine congrArg (fun t => X (ix4 b t j d)) (Fin.ext ?_)
    simp only [row, zz]
    omega
  choose f hf using H
  exact ⟨f, hf⟩

end Cert.Kernel.Attn
end
-- ==== Proof.lean ====
module
public import proofs.«01_k».proof.Defs
public import proofs.«01_k».proof.Proof.Compare
public import proofs.«01_k».proof.Proof.Gen.Pre_finite_ReferenceIdeal
/-! The certificate: the kernel leaves its arguments alone and its semaphores at zero, and over the
extended reals computes what the reference computes. -/
@[expose] public section
noncomputable section
open Idealize.ShloMosaic Idealize.ShloMosaic.TcCoe
open Cert.Kernel.Attn

namespace Cert.Proof

attribute [local instance] Cert.Kernel.Gen.facts Cert.KernelIdeal.Gen.facts
  Cert.ReferenceIdeal.Gen.facts Cert.Pre_finite_KernelIdeal.Gen.facts

/-- Each device's result is its block of the reference's. -/
theorem algebraic : algebraic_KernelIdeal_ReferenceIdeal_pre_finite_KernelIdeal := by
  intro m g m' g' hp ha
  have B : Blocks m _ _ _ := ⟨fun c => (ha c).1, fun c => (ha c).2.1, fun c => (ha c).2.2⟩
  obtain ⟨q, hq⟩ := real_of_blk _ fun c b s j d => by
    obtain ⟨r, hr⟩ := finite_fst _ _ _ (hp c).1 b s j d
    exact ⟨r, (congrFun (B.q c) _).symm.trans hr⟩
  obtain ⟨k, hk⟩ := real_of_blk _ fun c b s j d => by
    obtain ⟨r, hr⟩ := finite_snd _ _ _ (hp c).2 b s j d
    exact ⟨r, (congrFun (B.k c) _).symm.trans hr⟩
  refine ⟨_, (θ_run _ _ _).mono (fun r h c => ?_) (run_ideal m g),
    (θ_run _ _ _).mono (fun r h => h 0) (Cert.ReferenceIdeal.Value.run m' g')⟩
  exact ⟨(h.1 c).2.2.2.trans (B.agree q k hq hk c), (h.1 c).1, (h.1 c).2.1, (h.1 c).2.2.1⟩

/-- The kernel over the extended reals. -/
theorem frame_ideal : quiescent_KernelIdeal := fun m g _ =>
  (θ_run _ _ _).mono (fun _ h => ⟨fun c => ⟨(h.1 c).1, (h.1 c).2.1, (h.1 c).2.2.1⟩, h.2⟩)
    (run_ideal m g)

/-- The reference over the extended reals. -/
theorem frame_reference : quiescent_ReferenceIdeal := fun m g _ =>
  (θ_run _ _ _).mono (fun r h => ⟨fun c => (h c).2, sem_eq_zero_of_no_sems (by decide) r.2⟩)
    (Cert.ReferenceIdeal.Value.run m g)

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    fun m g _ => (θ_run _ _ _).mono
      (fun _ h => ⟨fun c => ⟨(h.1 c).1, (h.1 c).2.1, (h.1 c).2.2.1⟩, h.2⟩) (run_main m g),
    frame_ideal, fun m g _ => frame_ideal m g trivial,
    frame_reference, fun m g _ => frame_reference m g trivial,
    trivial, algebraic⟩

end Cert.Proof
end
